-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S16x16 : Shape := ⟨2, ![16, 16]⟩
abbrev S256x256 : Shape := ⟨2, ![256, 256]⟩
abbrev S1024x14336 : Shape := ⟨2, ![1024, 14336]⟩
abbrev S14336 : Shape := ⟨1, ![14336]⟩
abbrev S28x28 : Shape := ⟨2, ![28, 28]⟩
abbrev S512x512 : Shape := ⟨2, ![512, 512]⟩
abbrev S128x4096 : Shape := ⟨2, ![128, 4096]⟩
abbrev S1x14336 : Shape := ⟨2, ![1, 14336]⟩
abbrev S128x14336 : Shape := ⟨2, ![128, 14336]⟩
abbrev S1024x1024 : Shape := ⟨2, ![1024, 1024]⟩
abbrev S1x1024 : Shape := ⟨2, ![1, 1024]⟩
abbrev S16x128x256 : Shape := ⟨3, ![16, 128, 256]⟩
abbrev S16x224x512 : Shape := ⟨3, ![16, 224, 512]⟩
abbrev S128x256 : Shape := ⟨2, ![128, 256]⟩
abbrev S1x128x256 : Shape := ⟨3, ![1, 128, 256]⟩
abbrev S256x16 : Shape := ⟨2, ![256, 16]⟩
abbrev S1x16x256 : Shape := ⟨3, ![1, 16, 256]⟩
abbrev S16x256 : Shape := ⟨2, ![16, 256]⟩
abbrev S64x512 : Shape := ⟨2, ![64, 512]⟩
abbrev S16x512 : Shape := ⟨2, ![16, 512]⟩
abbrev S256x512 : Shape := ⟨2, ![256, 512]⟩
abbrev S4096x512 : Shape := ⟨2, ![4096, 512]⟩
abbrev S128x512 : Shape := ⟨2, ![128, 512]⟩
abbrev S1x512 : Shape := ⟨2, ![1, 512]⟩
abbrev S8x512 : Shape := ⟨2, ![8, 512]⟩
abbrev S1x16x512 : Shape := ⟨3, ![1, 16, 512]⟩
abbrev S224x28 : Shape := ⟨2, ![224, 28]⟩
abbrev S224x224 : Shape := ⟨2, ![224, 224]⟩
abbrev S1x224x512 : Shape := ⟨3, ![1, 224, 512]⟩
abbrev S224x512 : Shape := ⟨2, ![224, 512]⟩
abbrev S1x128x14336 : Shape := ⟨3, ![1, 128, 14336]⟩

abbrev nBuf : Space → Nat
  | .hbm => 11
  | .vmem => 13
  | .smem => 0
  | _ => 0

abbrev bufTy : (tb : Table) → Fin (tcTables nBuf tb) → BufTy
  | .hbm, ⟨0, _⟩ => ⟨S1x128x4096, .bf16⟩
  | .hbm, ⟨1, _⟩ => ⟨S16x16, .bf16⟩
  | .hbm, ⟨2, _⟩ => ⟨S256x256, .bf16⟩
  | .hbm, ⟨3, _⟩ => ⟨S1024x14336, .i8⟩
  | .hbm, ⟨4, _⟩ => ⟨S14336, .f32⟩
  | .hbm, ⟨5, _⟩ => ⟨S28x28, .bf16⟩
  | .hbm, ⟨6, _⟩ => ⟨S512x512, .bf16⟩
  | .hbm, ⟨7, _⟩ => ⟨S128x4096, .bf16⟩
  | .hbm, ⟨8, _⟩ => ⟨S1x14336, .f32⟩
  | .hbm, ⟨9, _⟩ => ⟨S128x14336, .bf16⟩
  | .hbm, ⟨10, _⟩ => ⟨S1x128x14336, .bf16⟩
  | .local _ .vmem, ⟨0, _⟩ => ⟨S128x4096, .bf16⟩
  | .local _ .vmem, ⟨1, _⟩ => ⟨S16x16, .bf16⟩
  | .local _ .vmem, ⟨2, _⟩ => ⟨S256x256, .bf16⟩
  | .local _ .vmem, ⟨3, _⟩ => ⟨S1024x1024, .i8⟩
  | .local _ .vmem, ⟨4, _⟩ => ⟨S1024x1024, .i8⟩
  | .local _ .vmem, ⟨5, _⟩ => ⟨S1x1024, .f32⟩
  | .local _ .vmem, ⟨6, _⟩ => ⟨S1x1024, .f32⟩
  | .local _ .vmem, ⟨7, _⟩ => ⟨S28x28, .bf16⟩
  | .local _ .vmem, ⟨8, _⟩ => ⟨S512x512, .bf16⟩
  | .local _ .vmem, ⟨9, _⟩ => ⟨S128x14336, .bf16⟩
  | .local _ .vmem, ⟨10, _⟩ => ⟨S16x128x256, .bf16⟩
  | .local _ .vmem, ⟨11, _⟩ => ⟨S128x4096, .bf16⟩
  | .local _ .vmem, ⟨12, _⟩ => ⟨S16x224x512, .bf16⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![14], ![false]⟩

def k0_mult1 (i : grid0.Coords) : BitVec 32 :=
  let arg0 : BitVec 32 := BitVec.ofNat 32 (i 0).val
  let c16_i32 : BitVec 32 := 16#32
  let v1151 : BitVec 32 := Scalar.muli arg0 c16_i32
  v1151
def k0_off1 (i : grid0.Coords) : Fin 3 → Nat :=
  let c0_444 : Index := 0#32
  let arg0 : BitVec 32 := BitVec.ofNat 32 (i 0).val
  let c16_i32 : BitVec 32 := 16#32
  let v1151 : BitVec 32 := Scalar.muli arg0 c16_i32
  let v1152 : BitVec 32 := v1151
  let v1153 : Index := Scalar.indexCast v1152
  let c0_445 : Index := 0#32
  ![0, v1153.toNat, 0]
def k0_mult2 (i : grid0.Coords) : BitVec 32 :=
  let arg0 : BitVec 32 := BitVec.ofNat 32 (i 0).val
  let c16_i32_446 : BitVec 32 := 16#32
  let v1161 : BitVec 32 := Scalar.muli arg0 c16_i32_446
  v1161
def k0_off2 (i : grid0.Coords) : Fin 3 → Nat :=
  let c1 : Index := 1#32
  let arg0 : BitVec 32 := BitVec.ofNat 32 (i 0).val
  let c16_i32_446 : BitVec 32 := 16#32
  let v1161 : BitVec 32 := Scalar.muli arg0 c16_i32_446
  let v1162 : BitVec 32 := v1161
  let v1163 : Index := Scalar.indexCast v1162
  let c0_447 : Index := 0#32
  ![1, v1163.toNat, 0]
def k0_mult3 (i : grid0.Coords) : BitVec 32 :=
  let arg0 : BitVec 32 := BitVec.ofNat 32 (i 0).val
  let c16_i32_448 : BitVec 32 := 16#32
  let v1171 : BitVec 32 := Scalar.muli arg0 c16_i32_448
  v1171
def k0_off3 (i : grid0.Coords) : Fin 3 → Nat :=
  let c2 : Index := 2#32
  let arg0 : BitVec 32 := BitVec.ofNat 32 (i 0).val
  let c16_i32_448 : BitVec 32 := 16#32
  let v1171 : BitVec 32 := Scalar.muli arg0 c16_i32_448
  let v1172 : BitVec 32 := v1171
  let v1173 : Index := Scalar.indexCast v1172
  let c0_449 : Index := 0#32
  ![2, v1173.toNat, 0]
def k0_mult4 (i : grid0.Coords) : BitVec 32 :=
  let arg0 : BitVec 32 := BitVec.ofNat 32 (i 0).val
  let c16_i32_450 : BitVec 32 := 16#32
  let v1181 : BitVec 32 := Scalar.muli arg0 c16_i32_450
  v1181
def k0_off4 (i : grid0.Coords) : Fin 3 → Nat :=
  let c3 : Index := 3#32
  let arg0 : BitVec 32 := BitVec.ofNat 32 (i 0).val
  let c16_i32_450 : BitVec 32 := 16#32
  let v1181 : BitVec 32 := Scalar.muli arg0 c16_i32_450
  let v1182 : BitVec 32 := v1181
  let v1183 : Index := Scalar.indexCast v1182
  let c0_451 : Index := 0#32
  ![3, v1183.toNat, 0]
def k0_mult5 (i : grid0.Coords) : BitVec 32 :=
  let arg0 : BitVec 32 := BitVec.ofNat 32 (i 0).val
  let c16_i32_452 : BitVec 32 := 16#32
  let v1191 : BitVec 32 := Scalar.muli arg0 c16_i32_452
  v1191
def k0_off5 (i : grid0.Coords) : Fin 3 → Nat :=
  let c4 : Index := 4#32
  let arg0 : BitVec 32 := BitVec.ofNat 32 (i 0).val
  let c16_i32_452 : BitVec 32 := 16#32
  let v1191 : BitVec 32 := Scalar.muli arg0 c16_i32_452
  let v1192 : BitVec 32 := v1191
  let v1193 : Index := Scalar.indexCast v1192
  let c0_453 : Index := 0#32
  ![4, v1193.toNat, 0]
def k0_mult6 (i : grid0.Coords) : BitVec 32 :=
  let arg0 : BitVec 32 := BitVec.ofNat 32 (i 0).val
  let c16_i32_454 : BitVec 32 := 16#32
  let v1201 : BitVec 32 := Scalar.muli arg0 c16_i32_454
  v1201
def k0_off6 (i : grid0.Coords) : Fin 3 → Nat :=
  let c5 : Index := 5#32
  let arg0 : BitVec 32 := BitVec.ofNat 32 (i 0).val
  let c16_i32_454 : BitVec 32 := 16#32
  let v1201 : BitVec 32 := Scalar.muli arg0 c16_i32_454
  let v1202 : BitVec 32 := v1201
  let v1203 : Index := Scalar.indexCast v1202
  let c0_455 : Index := 0#32
  ![5, v1203.toNat, 0]
def k0_mult7 (i : grid0.Coords) : BitVec 32 :=
  let arg0 : BitVec 32 := BitVec.ofNat 32 (i 0).val
  let c16_i32_456 : BitVec 32 := 16#32
  let v1211 : BitVec 32 := Scalar.muli arg0 c16_i32_456
  v1211
def k0_off7 (i : grid0.Coords) : Fin 3 → Nat :=
  let c6 : Index := 6#32
  let arg0 : BitVec 32 := BitVec.ofNat 32 (i 0).val
  let c16_i32_456 : BitVec 32 := 16#32
  let v1211 : BitVec 32 := Scalar.muli arg0 c16_i32_456
  let v1212 : BitVec 32 := v1211
  let v1213 : Index := Scalar.indexCast v1212
  let c0_457 : Index := 0#32
  ![6, v1213.toNat, 0]
def k0_mult8 (i : grid0.Coords) : BitVec 32 :=
  let arg0 : BitVec 32 := BitVec.ofNat 32 (i 0).val
  let c16_i32_458 : BitVec 32 := 16#32
  let v1221 : BitVec 32 := Scalar.muli arg0 c16_i32_458
  v1221
def k0_off8 (i : grid0.Coords) : Fin 3 → Nat :=
  let c7 : Index := 7#32
  let arg0 : BitVec 32 := BitVec.ofNat 32 (i 0).val
  let c16_i32_458 : BitVec 32 := 16#32
  let v1221 : BitVec 32 := Scalar.muli arg0 c16_i32_458
  let v1222 : BitVec 32 := v1221
  let v1223 : Index := Scalar.indexCast v1222
  let c0_459 : Index := 0#32
  ![7, v1223.toNat, 0]
def k0_mult9 (i : grid0.Coords) : BitVec 32 :=
  let arg0 : BitVec 32 := BitVec.ofNat 32 (i 0).val
  let c16_i32_460 : BitVec 32 := 16#32
  let v1231 : BitVec 32 := Scalar.muli arg0 c16_i32_460
  v1231
def k0_off9 (i : grid0.Coords) : Fin 3 → Nat :=
  let c8 : Index := 8#32
  let arg0 : BitVec 32 := BitVec.ofNat 32 (i 0).val
  let c16_i32_460 : BitVec 32 := 16#32
  let v1231 : BitVec 32 := Scalar.muli arg0 c16_i32_460
  let v1232 : BitVec 32 := v1231
  let v1233 : Index := Scalar.indexCast v1232
  let c0_461 : Index := 0#32
  ![8, v1233.toNat, 0]
def k0_mult10 (i : grid0.Coords) : BitVec 32 :=
  let arg0 : BitVec 32 := BitVec.ofNat 32 (i 0).val
  let c16_i32_462 : BitVec 32 := 16#32
  let v1241 : BitVec 32 := Scalar.muli arg0 c16_i32_462
  v1241
def k0_off10 (i : grid0.Coords) : Fin 3 → Nat :=
  let c9 : Index := 9#32
  let arg0 : BitVec 32 := BitVec.ofNat 32 (i 0).val
  let c16_i32_462 : BitVec 32 := 16#32
  let v1241 : BitVec 32 := Scalar.muli arg0 c16_i32_462
  let v1242 : BitVec 32 := v1241
  let v1243 : Index := Scalar.indexCast v1242
  let c0_463 : Index := 0#32
  ![9, v1243.toNat, 0]
def k0_mult11 (i : grid0.Coords) : BitVec 32 :=
  let arg0 : BitVec 32 := BitVec.ofNat 32 (i 0).val
  let c16_i32_464 : BitVec 32 := 16#32
  let v1251 : BitVec 32 := Scalar.muli arg0 c16_i32_464
  v1251
def k0_off11 (i : grid0.Coords) : Fin 3 → Nat :=
  let c10 : Index := 10#32
  let arg0 : BitVec 32 := BitVec.ofNat 32 (i 0).val
  let c16_i32_464 : BitVec 32 := 16#32
  let v1251 : BitVec 32 := Scalar.muli arg0 c16_i32_464
  let v1252 : BitVec 32 := v1251
  let v1253 : Index := Scalar.indexCast v1252
  let c0_465 : Index := 0#32
  ![10, v1253.toNat, 0]
def k0_mult12 (i : grid0.Coords) : BitVec 32 :=
  let arg0 : BitVec 32 := BitVec.ofNat 32 (i 0).val
  let c16_i32_466 : BitVec 32 := 16#32
  let v1261 : BitVec 32 := Scalar.muli arg0 c16_i32_466
  v1261
def k0_off12 (i : grid0.Coords) : Fin 3 → Nat :=
  let c11 : Index := 11#32
  let arg0 : BitVec 32 := BitVec.ofNat 32 (i 0).val
  let c16_i32_466 : BitVec 32 := 16#32
  let v1261 : BitVec 32 := Scalar.muli arg0 c16_i32_466
  let v1262 : BitVec 32 := v1261
  let v1263 : Index := Scalar.indexCast v1262
  let c0_467 : Index := 0#32
  ![11, v1263.toNat, 0]
def k0_mult13 (i : grid0.Coords) : BitVec 32 :=
  let arg0 : BitVec 32 := BitVec.ofNat 32 (i 0).val
  let c16_i32_468 : BitVec 32 := 16#32
  let v1271 : BitVec 32 := Scalar.muli arg0 c16_i32_468
  v1271
def k0_off13 (i : grid0.Coords) : Fin 3 → Nat :=
  let c12 : Index := 12#32
  let arg0 : BitVec 32 := BitVec.ofNat 32 (i 0).val
  let c16_i32_468 : BitVec 32 := 16#32
  let v1271 : BitVec 32 := Scalar.muli arg0 c16_i32_468
  let v1272 : BitVec 32 := v1271
  let v1273 : Index := Scalar.indexCast v1272
  let c0_469 : Index := 0#32
  ![12, v1273.toNat, 0]
def k0_mult14 (i : grid0.Coords) : BitVec 32 :=
  let arg0 : BitVec 32 := BitVec.ofNat 32 (i 0).val
  let c16_i32_470 : BitVec 32 := 16#32
  let v1281 : BitVec 32 := Scalar.muli arg0 c16_i32_470
  v1281
def k0_off14 (i : grid0.Coords) : Fin 3 → Nat :=
  let c13 : Index := 13#32
  let arg0 : BitVec 32 := BitVec.ofNat 32 (i 0).val
  let c16_i32_470 : BitVec 32 := 16#32
  let v1281 : BitVec 32 := Scalar.muli arg0 c16_i32_470
  let v1282 : BitVec 32 := v1281
  let v1283 : Index := Scalar.indexCast v1282
  let c0_471 : Index := 0#32
  ![13, v1283.toNat, 0]
def k0_mult15 (i : grid0.Coords) : BitVec 32 :=
  let arg0 : BitVec 32 := BitVec.ofNat 32 (i 0).val
  let c16_i32_472 : BitVec 32 := 16#32
  let v1291 : BitVec 32 := Scalar.muli arg0 c16_i32_472
  v1291
def k0_off15 (i : grid0.Coords) : Fin 3 → Nat :=
  let c14 : Index := 14#32
  let arg0 : BitVec 32 := BitVec.ofNat 32 (i 0).val
  let c16_i32_472 : BitVec 32 := 16#32
  let v1291 : BitVec 32 := Scalar.muli arg0 c16_i32_472
  let v1292 : BitVec 32 := v1291
  let v1293 : Index := Scalar.indexCast v1292
  let c0_473 : Index := 0#32
  ![14, v1293.toNat, 0]
def k0_mult16 (i : grid0.Coords) : BitVec 32 :=
  let arg0 : BitVec 32 := BitVec.ofNat 32 (i 0).val
  let c16_i32_474 : BitVec 32 := 16#32
  let v1301 : BitVec 32 := Scalar.muli arg0 c16_i32_474
  v1301
def k0_off16 (i : grid0.Coords) : Fin 3 → Nat :=
  let c15 : Index := 15#32
  let arg0 : BitVec 32 := BitVec.ofNat 32 (i 0).val
  let c16_i32_474 : BitVec 32 := 16#32
  let v1301 : BitVec 32 := Scalar.muli arg0 c16_i32_474
  let v1302 : BitVec 32 := v1301
  let v1303 : Index := Scalar.indexCast v1302
  let c0_475 : Index := 0#32
  ![15, v1303.toNat, 0]
def k0_cond2 (i : grid0.Coords) : BitVec 1 :=
  let arg0 : BitVec 32 := BitVec.ofNat 32 (i 0).val
  let c13_i32 : BitVec 32 := 13#32
  let v1307 : BitVec 1 := Scalar.cmpi .eq arg0 c13_i32
  let v1308 : BitVec 32 := Scalar.extui v1307
  let c0_i32_476 : BitVec 32 := 0#32
  let v1309 : BitVec 1 := Scalar.cmpi .ne v1308 c0_i32_476
  v1309

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S28x28 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x14336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x128x4096 : Shape := ⟨3, ![1, 128, 4096]⟩
abbrev S16x16 : Shape := ⟨2, ![16, 16]⟩
abbrev S256x256 : Shape := ⟨2, ![256, 256]⟩
abbrev S1024x14336 : Shape := ⟨2, ![1024, 14336]⟩
abbrev S14336 : Shape := ⟨1, ![14336]⟩
abbrev S28x28 : Shape := ⟨2, ![28, 28]⟩
abbrev S512x512 : Shape := ⟨2, ![512, 512]⟩
abbrev S128x16x256 : Shape := ⟨3, ![128, 16, 256]⟩
abbrev S16x128x256 : Shape := ⟨3, ![16, 128, 256]⟩
abbrev S128x1024x4 : Shape := ⟨3, ![128, 1024, 4]⟩
abbrev S_ : Shape := ⟨0, ![]⟩
abbrev S128x1024x1 : Shape := ⟨3, ![128, 1024, 1]⟩
abbrev S128x1024 : Shape := ⟨2, ![128, 1024]⟩
abbrev S128x14336 : Shape := ⟨2, ![128, 14336]⟩
abbrev S1x14336 : Shape := ⟨2, ![1, 14336]⟩
abbrev S128x28x512 : Shape := ⟨3, ![128, 28, 512]⟩
abbrev S128x512x28 : Shape := ⟨3, ![128, 512, 28]⟩
abbrev S1x128x14336 : Shape := ⟨3, ![1, 128, 14336]⟩

abbrev nBuf : Space → Nat
  | .hbm => 84
  | .vmem => 0
  | .smem => 0
  | _ => 0

abbrev bufTy : (tb : Table) → Fin (tcTables nBuf tb) → BufTy
  | .hbm, ⟨0, _⟩ => ⟨S1x128x4096, .bf16⟩
  | .hbm, ⟨1, _⟩ => ⟨S16x16, .bf16⟩
  | .hbm, ⟨2, _⟩ => ⟨S256x256, .bf16⟩
  | .hbm, ⟨3, _⟩ => ⟨S1024x14336, .i8⟩
  | .hbm, ⟨4, _⟩ => ⟨S14336, .f32⟩
  | .hbm, ⟨5, _⟩ => ⟨S28x28, .bf16⟩
  | .hbm, ⟨6, _⟩ => ⟨S512x512, .bf16⟩
  | .hbm, ⟨7, _⟩ => ⟨S128x16x256, .bf16⟩
  | .hbm, ⟨8, _⟩ => ⟨S128x16x256, .f32⟩
  | .hbm, ⟨9, _⟩ => ⟨S128x16x256, .bf16⟩
  | .hbm, ⟨10, _⟩ => ⟨S16x128x256, .f32⟩
  | .hbm, ⟨11, _⟩ => ⟨S128x16x256, .f32⟩
  | .hbm, ⟨12, _⟩ => ⟨S128x16x256, .bf16⟩
  | .hbm, ⟨13, _⟩ => ⟨S128x1024x4, .bf16⟩
  | .hbm, ⟨14, _⟩ => ⟨S1024x14336, .i32⟩
  | .hbm, ⟨15, _⟩ => ⟨S_, .i32⟩
  | .hbm, ⟨16, _⟩ => ⟨S1024x14336, .i32⟩
  | .hbm, ⟨17, _⟩ => ⟨S1024x14336, .i32⟩
  | .hbm, ⟨18, _⟩ => ⟨S_, .i32⟩
  | .hbm, ⟨19, _⟩ => ⟨S1024x14336, .i32⟩
  | .hbm, ⟨20, _⟩ => ⟨S1024x14336, .i32⟩
  | .hbm, ⟨21, _⟩ => ⟨S1024x14336, .bf16⟩
  | .hbm, ⟨22, _⟩ => ⟨S_, .bf16⟩
  | .hbm, ⟨23, _⟩ => ⟨S1024x14336, .bf16⟩
  | .hbm, ⟨24, _⟩ => ⟨S1024x14336, .bf16⟩
  | .hbm, ⟨25, _⟩ => ⟨S128x1024x1, .bf16⟩
  | .hbm, ⟨26, _⟩ => ⟨S128x1024, .bf16⟩
  | .hbm, ⟨27, _⟩ => ⟨S128x14336, .f32⟩
  | .hbm, ⟨28, _⟩ => ⟨S1024x14336, .i32⟩
  | .hbm, ⟨29, _⟩ => ⟨S_, .i32⟩
  | .hbm, ⟨30, _⟩ => ⟨S1024x14336, .i32⟩
  | .hbm, ⟨31, _⟩ => ⟨S1024x14336, .i32⟩
  | .hbm, ⟨32, _⟩ => ⟨S_, .i32⟩
  | .hbm, ⟨33, _⟩ => ⟨S1024x14336, .i32⟩
  | .hbm, ⟨34, _⟩ => ⟨S1024x14336, .i32⟩
  | .hbm, ⟨35, _⟩ => ⟨S1024x14336, .bf16⟩
  | .hbm, ⟨36, _⟩ => ⟨S_, .bf16⟩
  | .hbm, ⟨37, _⟩ => ⟨S1024x14336, .bf16⟩
  | .hbm, ⟨38, _⟩ => ⟨S1024x14336, .bf16⟩
  | .hbm, ⟨39, _⟩ => ⟨S128x1024x1, .bf16⟩
  | .hbm, ⟨40, _⟩ => ⟨S128x1024, .bf16⟩
  | .hbm, ⟨41, _⟩ => ⟨S128x14336, .f32⟩
  | .hbm, ⟨42, _⟩ => ⟨S128x14336, .f32⟩
  | .hbm, ⟨43, _⟩ => ⟨S1024x14336, .i32⟩
  | .hbm, ⟨44, _⟩ => ⟨S_, .i32⟩
  | .hbm, ⟨45, _⟩ => ⟨S1024x14336, .i32⟩
  | .hbm, ⟨46, _⟩ => ⟨S1024x14336, .i32⟩
  | .hbm, ⟨47, _⟩ => ⟨S_, .i32⟩
  | .hbm, ⟨48, _⟩ => ⟨S1024x14336, .i32⟩
  | .hbm, ⟨49, _⟩ => ⟨S1024x14336, .i32⟩
  | .hbm, ⟨50, _⟩ => ⟨S1024x14336, .bf16⟩
  | .hbm, ⟨51, _⟩ => ⟨S_, .bf16⟩
  | .hbm, ⟨52, _⟩ => ⟨S1024x14336, .bf16⟩
  | .hbm, ⟨53, _⟩ => ⟨S1024x14336, .bf16⟩
  | .hbm, ⟨54, _⟩ => ⟨S128x1024x1, .bf16⟩
  | .hbm, ⟨55, _⟩ => ⟨S128x1024, .bf16⟩
  | .hbm, ⟨56, _⟩ => ⟨S128x14336, .f32⟩
  | .hbm, ⟨57, _⟩ => ⟨S128x14336, .f32⟩
  | .hbm, ⟨58, _⟩ => ⟨S1024x14336, .i32⟩
  | .hbm, ⟨59, _⟩ => ⟨S_, .i32⟩
  | .hbm, ⟨60, _⟩ => ⟨S1024x14336, .i32⟩
  | .hbm, ⟨61, _⟩ => ⟨S1024x14336, .i32⟩
  | .hbm, ⟨62, _⟩ => ⟨S_, .i32⟩
  | .hbm, ⟨63, _⟩ => ⟨S1024x14336, .i32⟩
  | .hbm, ⟨64, _⟩ => ⟨S1024x14336, .i32⟩
  | .hbm, ⟨65, _⟩ => ⟨S1024x14336, .bf16⟩
  | .hbm, ⟨66, _⟩ => ⟨S_, .bf16⟩
  | .hbm, ⟨67, _⟩ => ⟨S1024x14336, .bf16⟩
  | .hbm, ⟨68, _⟩ => ⟨S1024x14336, .bf16⟩
  | .hbm, ⟨69, _⟩ => ⟨S128x1024x1, .bf16⟩
  | .hbm, ⟨70, _⟩ => ⟨S128x1024, .bf16⟩
  | .hbm, ⟨71, _⟩ => ⟨S128x14336, .f32⟩
  | .hbm, ⟨72, _⟩ => ⟨S128x14336, .f32⟩
  | .hbm, ⟨73, _⟩ => ⟨S1x14336, .f32⟩
  | .hbm, ⟨74, _⟩ => ⟨S128x14336, .f32⟩
  | .hbm, ⟨75, _⟩ => ⟨S128x14336, .f32⟩
  | .hbm, ⟨76, _⟩ => ⟨S128x14336, .bf16⟩
  | .hbm, ⟨77, _⟩ => ⟨S128x28x512, .bf16⟩
  | .hbm, ⟨78, _⟩ => ⟨S128x28x512, .f32⟩
  | .hbm, ⟨79, _⟩ => ⟨S128x28x512, .bf16⟩
  | .hbm, ⟨80, _⟩ => ⟨S128x512x28, .f32⟩
  | .hbm, ⟨81, _⟩ => ⟨S128x28x512, .f32⟩
  | .hbm, ⟨82, _⟩ => ⟨S128x28x512, .bf16⟩
  | .hbm, ⟨83, _⟩ => ⟨S1x128x14336, .bf16⟩
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Proof.Bits.Run.lean ====
/- One run of the kernel body that follows the inputs only: whatever its two branches do, the body terminates, leaves
   its inputs as they were, and every other buffer at some contents that nothing names. -/
module

public import proofs.«01_k».proof.Proof.Gen.Kernel.Frame
public import proofs.«01_k».proof.Proof.Gen.Kernel.Skeleton
public import proofs.«01_k».proof.Proof.Gen.Kernel.Points
public import Idealize.ShloMosaic.Lib.Ring
public import Idealize.ShloMosaic.Lib.Tactic

@[expose] public section

set_option maxRecDepth 16384

noncomputable section

namespace Cert.BitsBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the grid point is the first. -/
abbrev cond0 (i : grid0.Coords) : Prop := (Scalar.cmpi .ne (Scalar.extui (Scalar.cmpi .eq (BitVec.ofNat 32 (i 0).val) 0#32)) 0#32) = 1#1

/-- The condition of the body's second branch: the grid point is the last. -/
abbrev cond1 (i : grid0.Coords) : Prop := k0_cond2 i = 1#1

set_option maxHeartbeats 12000000 in
/-- The kernel body at any grid point, on whole memrefs: the inputs come back at the contents they had, the result's
    buffer and the three scratch buffers at some contents. Each way the two branches can go is run. -/
theorem run (c : Dev nD) (i : grid0.Coords)
    (arg1 : Memref sig .tc .vmem S128x4096 .bf16) (harg1 : arg1.IsWhole)
    (arg2 : Memref sig .tc .vmem S16x16 .bf16) (harg2 : arg2.IsWhole)
    (arg3 : Memref sig .tc .vmem S256x256 .bf16) (harg3 : arg3.IsWhole)
    (arg4 : Memref sig .tc .vmem S1024x1024 .i8) (harg4 : arg4.IsWhole)
    (arg5 : Memref sig .tc .vmem S1x1024 .f32) (harg5 : arg5.IsWhole)
    (arg6 : Memref sig .tc .vmem S28x28 .bf16) (harg6 : arg6.IsWhole)
    (arg7 : Memref sig .tc .vmem S512x512 .bf16) (harg7 : arg7.IsWhole)
    (arg8 : Memref sig .tc .vmem S128x14336 .bf16) (harg8 : arg8.IsWhole)
    (arg9 : Memref sig .tc .vmem S16x128x256 .bf16) (harg9 : arg9.IsWhole)
    (arg10 : Memref sig .tc .vmem S128x4096 .bf16) (harg10 : arg10.IsWhole)
    (arg11 : Memref sig .tc .vmem S16x224x512 .bf16) (harg11 : arg11.IsWhole)
    (x0 : Vec F S128x4096 .bf16) (x1 : Vec F S16x16 .bf16) (x2 : Vec F S256x256 .bf16) (x3 : Vec F S1024x1024 .i8) (x4 : Vec F S1x1024 .f32) (x5 : Vec F S28x28 .bf16) (x6 : Vec F S512x512 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_quip_int2 i arg1 harg1 arg2 harg2 arg3 harg3 arg4 harg4 arg5 harg5 arg6 harg6 arg7 harg7 arg8 harg8 arg9 harg9 arg10 harg10 arg11 harg11) K := by
  simp only [cc0_quip_int2_eq_skeleton]; unfold cc0_quip_int2_skel
  simp only [k0_part97_eq_skeleton, k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  by_cases hc0 : cond0 i <;> by_cases hc1 : cond1 i
  all_goals sl_exec (disch := first | sl_exact hc0 | sl_exact hc1)
  all_goals try sl_exec (disch := first | sl_exact hc0 | sl_exact hc1)
  all_goals sl_step
  all_goals iapply Hk
  all_goals isplitl [H0]
  any_goals (iexists _; isplitr; swap; iexact H0; ipureintro; exact harg1.read_unread _)
  all_goals isplitl [H1]
  any_goals (iexists _; isplitr; swap; iexact H1; ipureintro; exact harg2.read_unread _)
  all_goals isplitl [H2]
  any_goals (iexists _; isplitr; swap; iexact H2; ipureintro; exact harg3.read_unread _)
  all_goals isplitl [H3]
  any_goals (iexists _; isplitr; swap; iexact H3; ipureintro; exact harg4.read_unread _)
  all_goals isplitl [H4]
  any_goals (iexists _; isplitr; swap; iexact H4; ipureintro; exact harg5.read_unread _)
  all_goals isplitl [H5]
  any_goals (iexists _; isplitr; swap; iexact H5; ipureintro; exact harg6.read_unread _)
  all_goals isplitl [H6]
  any_goals (iexists _; isplitr; swap; iexact H6; ipureintro; exact harg7.read_unread _)
  all_goals isplitl [H7]
  any_goals (iexists _, _; isplitr; swap; iexact H7; ipureintro; rfl)
  all_goals isplitl [H8]
  any_goals (iexists _, _; isplitr; swap; iexact H8; ipureintro; rfl)
  all_goals isplitl [H9]
  any_goals (iexists _, _; isplitr; swap; iexact H9; ipureintro; rfl)
  all_goals (iexists _, _; isplitr; swap; iexact H10; ipureintro; rfl)

end Cert.BitsBody

end
-- ==== Proof.Bits.Frame.lean ====
/- The kernel's frame, at any values: the arguments end unchanged and every counter ends at zero. The result's window
   is forgotten, and so is what the scratch buffers hold between grid points. -/
module

public import proofs.«01_k».proof.Proof.Bits.Run
public import proofs.«01_k».proof.Proof.Gen.Kernel.Launch
public import Idealize.ShloMosaic.Lib.Pipeline.FrameBody
public import Idealize.ShloMosaic.Lib.Pipeline.FrameSuffix
public import Idealize.ShloMosaic.Lib.Claim

@[expose] public section

set_option maxRecDepth 16384

noncomputable section

namespace Cert.BitsBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the operations after the region write: nothing is stated of it. -/
def T0 : Finset (Ref sig .tc) := {main_v3}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- From a run that ends with the arrays of the input windows as the region found them, the arguments end as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c)),
      (Pipeline.RDat.FramePostR.arr_in h c 6 rfl).trans ((hA c 6).trans (V_main_arg6 m c))⟩) h

/-- The window whose contents are forgotten: the result's. -/
def forgets : Fin 8 → Bool := fun w => w.val == 7

/-- Each window's staging memref at a point. -/
abbrev ms0 (t : Fin cfg0.N) : Memref sig .tc .vmem S128x4096 .bf16 := win0_0.stage (cfg0.slots t 0)
abbrev ms1 (t : Fin cfg0.N) : Memref sig .tc .vmem S16x16 .bf16 := win0_1.stage (cfg0.slots t 1)
abbrev ms2 (t : Fin cfg0.N) : Memref sig .tc .vmem S256x256 .bf16 := win0_2.stage (cfg0.slots t 2)
abbrev ms3 (t : Fin cfg0.N) : Memref sig .tc .vmem S1024x1024 .i8 := win0_3.stage (cfg0.slots t 3)
abbrev ms4 (t : Fin cfg0.N) : Memref sig .tc .vmem S1x1024 .f32 := win0_4.stage (cfg0.slots t 4)
abbrev ms5 (t : Fin cfg0.N) : Memref sig .tc .vmem S28x28 .bf16 := win0_5.stage (cfg0.slots t 5)
abbrev ms6 (t : Fin cfg0.N) : Memref sig .tc .vmem S512x512 .bf16 := win0_6.stage (cfg0.slots t 6)
abbrev ms7 (t : Fin cfg0.N) : Memref sig .tc .vmem S128x14336 .bf16 := win0_7.stage (cfg0.slots t 7)

/-- The pipeline's proof data: every input's buffer at its block, the result's at nothing named, and between points
    the scratch buffers and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

/-- Each input's staging buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- An input's buffer is left at its block. -/
theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, after_6]

/-- What is kept between points: the three scratch buffers and the generator register, at anything. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms7 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, Phi_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
/-- The launch: the program terminates with the input windows' arrays as the region found them and every counter at zero. -/
theorem run_main : θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_track_forget (Q' := _) cfgs (dats m) (0 : Fin 1) launch0 defs₀ Variants.none forgets T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (fun c => (dats m 0 c).toRForget forgets) (A_eq m) ((θ_run defs _ _).mono (fun _ h => h.1) (run_main m ρ)))
    ((θ_run defs _ _).mono (fun _ h => h.2) (run_main m ρ))

end Cert.BitsBody

end
-- ==== Proof.Body.Unpack.lean ====
/- How the kernel unpacks four two-bit codes from a byte: four 8-bit rows are read as one 32-bit word, every field is moved to the
   top two bits of its byte and completed to `±32` or `±96`, and the word is read as four bytes again. Here: what one such byte is. -/
module

public import proofs.«01_k».proof.Proof.Gen.KernelIdeal.Skeleton
public import Idealize.ShloMosaic.Lib.Pointwise
public import Idealize.ShloMosaic.Lib.BitcastFour

@[expose] public section

set_option maxRecDepth 16384

noncomputable section

namespace Cert.Body

open Idealize.ShloMosaic

/-- The byte that the kernel makes of a byte of codes when it moves the field at bit `6 - s` to the top. -/
def fieldByte (s : Nat) (b : BitVec 8) : BitVec 8 := (((b ^^^ 0xAA#8) <<< s) &&& 0xC0#8) ||| 0x20#8

/-- A byte of the word that the kernel computes is `fieldByte` of the byte of codes at the same place. -/
theorem word_field (W : BitVec 32) (b : BitVec 8) (e : Nat) (he : e < 4) (hb : ∀ q, q < 8 → W.getLsbD (8 * e + q) = b.getLsbD q)
    (s : Nat) (hs : s ≤ 6) (q : Nat) (hq : q < 8) :
    ((((W ^^^ 2863311530#32) <<< s) &&& 3233857728#32) ||| 538976288#32).getLsbD (8 * e + q) = (fieldByte s b).getLsbD q := by
  have hA : ∀ q, q < 8 → (2863311530#32).getLsbD (8 * e + q) = (0xAA#8).getLsbD q := by
    intro q hq; interval_cases e <;> interval_cases q <;> rfl
  have hC : (3233857728#32).getLsbD (8 * e + q) = (0xC0#8).getLsbD q := by
    interval_cases e <;> interval_cases q <;> rfl
  have hD : (538976288#32).getLsbD (8 * e + q) = (0x20#8).getLsbD q := by
    interval_cases e <;> interval_cases q <;> rfl
  unfold fieldByte
  simp only [BitVec.getLsbD_or, BitVec.getLsbD_and, hC, hD]
  by_cases h6 : q < 6
  · have h0 : (0xC0#8).getLsbD q = false := by interval_cases q <;> rfl
    rw [h0, Bool.and_false, Bool.and_false]
  · have hsq : 8 * e + q - s = 8 * e + (q - s) := by omega
    have h1 : ¬ (8 * e + q < s) := by omega
    have h2 : ¬ (q < s) := by omega
    have h3 : 8 * e + q < 32 := by omega
    simp only [BitVec.getLsbD_shiftLeft, BitVec.getLsbD_xor, hsq, hb (q - s) (by omega), hA (q - s) (by omega), h1, h2, h3, hq]

/-- Twice the number the kernel reads off `fieldByte` is 64 times twice the code less three: the byte is the level `code - 3/2`,
    scaled by 64. The code is in the reference's words. -/
theorem fieldByte_toInt (b : BitVec 8) :
    (2 * (fieldByte 6 b).toInt = 64 * (2 * (IntOp.andi (IntOp.shrsi .host (b.setWidth 32) 0#32) 3#32).toInt - 3))
    ∧ (2 * (fieldByte 4 b).toInt = 64 * (2 * (IntOp.andi (IntOp.shrsi .host (b.setWidth 32) 2#32) 3#32).toInt - 3))
    ∧ (2 * (fieldByte 2 b).toInt = 64 * (2 * (IntOp.andi (IntOp.shrsi .host (b.setWidth 32) 4#32) 3#32).toInt - 3))
    ∧ (2 * (fieldByte 0 b).toInt = 64 * (2 * (IntOp.andi (IntOp.shrsi .host (b.setWidth 32) 6#32) 3#32).toInt - 3)) := by
  revert b; decide +kernel

open Cert.KernelIdeal Cert.KernelIdeal.Gen

/-- One field of a block of codes, unpacked: what the printed chain of word operations is, element by element. -/
theorem bitcast_field (x : Vec Ideal S64x512 .i8) (w : IVec S16x512 32) (s : Nat) (hs : s ≤ 6)
    (h1 : S64x512.Bitcasts 8 S16x512 32) (h2 : S16x512.Bitcasts 32 S64x512 8)
    (hw : ∀ j, w j = ((((bitcast S16x512 32 x h1 j : BitVec 32) ^^^ 2863311530#32) <<< s) &&& 3233857728#32) ||| 538976288#32)
    (r : Fin 64) (l : Fin 512) :
    bitcast S64x512 8 w h2 (ix2 r l) = fieldByte s (x (ix2 r l)) := by
  apply BitVec.eq_of_getLsbD_eq
  intro q hq
  rw [bitcast_getLsbD w h2 (ix2 r l) q hq (by decide)]
  have hrow : S64x512.row (ix2 r l) = r.val := rfl
  have hj : ∀ h, h2.srcIdx (ix2 r l) ((S64x512.row (ix2 r l) * 8 + q) / 32) h = ix2 (⟨r.val / 4, by omega⟩ : Fin 16) l := by
    intro h
    funext c
    match c with
    | ⟨0, _⟩ => exact Fin.ext ((h2.srcIdx_row _ _ _ ⟨0, Nat.zero_lt_two⟩ rfl).trans (by rw [hrow]; show (r.val * 8 + q) / 32 = r.val / 4; omega))
    | ⟨1, _⟩ => exact Fin.ext (h2.srcIdx_other _ _ _ ⟨1, Nat.one_lt_two⟩ (by show ¬ 1 + 2 = 2; omega))
  rw [hj, hw]
  have hb : (S64x512.row (ix2 r l) * 8 + q) % 32 = 8 * (r.val % 4) + q := by rw [hrow]; omega
  rw [hb]
  refine word_field _ _ _ (by omega) ?_ s hs q hq
  intro q' hq'
  have := bitcast_8_32_getLsbD_ix2 x h1 (⟨r.val / 4, by omega⟩ : Fin 16) l (8 * (r.val % 4) + q') (by omega) r (by show r.val = 4 * (r.val / 4) + _; omega)
  refine Eq.trans this ?_
  rw [show (8 * (r.val % 4) + q') % 8 = q' by omega]
  rfl

end Cert.Body

end
-- ==== Proof.Body.Rows.lean ====
/- Blocks of equally many rows laid below each other, read at a row. -/
module

public import Idealize.ShloMosaic.Lib.Pointwise

@[expose] public section

namespace Cert.Body

open Idealize.ShloMosaic

/-- The concatenation along the rows, from row `c` on: row `k * R + r` is row `r` of block `k`. -/
theorem concatenateAt_rows {α : Type} {T R n : Nat} (i : Fin T) (l : Fin n) :
    ∀ (xs : List ((⟨2, ![R, n]⟩ : Shape).Idx → α)) (hs) (c : Nat) (hc) (k : Nat) (hk : k < xs.length) (r : Fin R), c = k * R + r.val →
      concatenateAt (⟨2, ![T, n]⟩ : Shape) 0 (ix2 i l) (xs.map fun x => (⟨(⟨2, ![R, n]⟩ : Shape), x⟩ : (s : Shape) × (s.Idx → α))) hs c hc
        = xs[k] (ix2 r l) := by
  intro xs
  induction xs with
  | nil => intro hs c hc k hk; exact absurd hk (Nat.not_lt_zero _)
  | cons x xs ih =>
    cases xs with
    | nil =>
      rw [List.map_cons, List.map_nil]
      intro hs c hc k hk r hcr
      obtain rfl : k = 0 := by simpa using hk
      rw [Nat.zero_mul, Nat.zero_add] at hcr
      subst hcr
      refine (concatenateAt_singleton (0 : Fin (⟨2, ![T, n]⟩ : Shape).rank) (ix2 i l) x hs r.val hc).trans ?_
      show x _ = x _
      congr 1
      funext b
      match b with
      | ⟨0, _⟩ => rfl
      | ⟨1, _⟩ => rfl
    | cons y ys =>
      intro hs c hc k hk r hcr
      refine (concatenateAt_cons (0 : Fin (⟨2, ![T, n]⟩ : Shape).rank) (ix2 i l) x ⟨_, y⟩ (ys.map fun x => (⟨(⟨2, ![R, n]⟩ : Shape), x⟩ : (s : Shape) × (s.Idx → α))) hs c hc).trans ?_
      have hsz : (⟨2, ![R, n]⟩ : Shape).size ((0 : Fin 2).cast (hs _ List.mem_cons_self).rank_eq.symm) = R := rfl
      cases k with
      | zero =>
        rw [Nat.zero_mul, Nat.zero_add] at hcr
        subst hcr
        refine (dif_pos (show r.val < R from r.isLt)).trans ?_
        show x _ = x _
        congr 1
        funext b
        match b with
        | ⟨0, _⟩ => rfl
        | ⟨1, _⟩ => rfl
      | succ k =>
        have hge : ¬ c < R := by rw [hcr, Nat.succ_mul]; omega
        refine (dif_neg (show ¬ c < R from hge)).trans ?_
        exact ih _ _ _ k (by simpa using hk) r (show c - R = _ by rw [hcr, Nat.succ_mul]; omega)

/-- Row `k * R + r` of blocks of `R` rows laid below each other is row `r` of block `k`. -/
theorem concatenate_rows {α : Type} {T R n : Nat} (xs : List ((⟨2, ![R, n]⟩ : Shape).Idx → α)) (h) (k : Nat) (hk : k < xs.length) (r : Fin R)
    (i : Fin T) (l : Fin n) (hi : i.val = k * R + r.val) :
    concatenate (⟨2, ![T, n]⟩ : Shape) 0 (xs.map fun x => (⟨(⟨2, ![R, n]⟩ : Shape), x⟩ : (s : Shape) × (s.Idx → α))) h (ix2 i l) = xs[k] (ix2 r l) := by
  rw [concatenate_apply]
  exact concatenateAt_rows i l xs _ _ _ k hk r hi

end Cert.Body
-- ==== Proof.Body.Product.lean ====
/- The product of a block of outputs: the unpacked codes laid out by input block and field, the product with the rotated activations,
   the scale, and the product with the second output factor. Stated over the operations that the kernel prints, read at an index. -/
module

public import proofs.«01_k».proof.Proof.Body.Unpack
public import proofs.«01_k».proof.Proof.Body.Rows

@[expose] public section

set_option maxRecDepth 16384

noncomputable section

namespace Cert.Body

open Idealize.ShloMosaic
open Cert.KernelIdeal Cert.KernelIdeal.Gen

/-- The words of a block of codes, the bits of every second position flipped. -/
def flipped (x : Vec Ideal S64x512 .i8) : IVec S16x512 32 :=
  xori (bitcast S16x512 32 x bitcasts_S64x512_w8_S16x512_w32) (broadcast S16x512 2863311530#32)

/-- The bytes of words whose fields stand at the top of their bytes, as numbers. -/
def bytes (w : IVec S16x512 32) : FVec Ideal S64x512 .bf16 :=
  sitofp .bf16 (bitcast S64x512 8 (ori (andi w (broadcast S16x512 3233857728#32)) (broadcast S16x512 538976288#32)) bitcasts_S16x512_w32_S64x512_w8)

/-- A block of codes unpacked: its four fields below each other. -/
def unpack4 (x : Vec Ideal S64x512 .i8) : FVec Ideal S256x512 .bf16 :=
  concatenate S256x512 0 [⟨S64x512, bytes (shli (flipped x) (broadcast S16x512 6#32))⟩, ⟨S64x512, bytes (shli (flipped x) (broadcast S16x512 4#32))⟩,
    ⟨S64x512, bytes (shli (flipped x) (broadcast S16x512 2#32))⟩, ⟨S64x512, bytes (flipped x)⟩] concatenates_S64x512_S64x512_S64x512_S64x512_S256x512_d0

theorem bytes_apply (x : Vec Ideal S64x512 .i8) (w : IVec S16x512 32) (s : Nat) (hs : s ≤ 6)
    (hw : ∀ j, w j = (bitcast S16x512 32 x bitcasts_S64x512_w8_S16x512_w32 j ^^^ 2863311530#32 : BitVec 32) <<< s) (r : Fin 64) (l : Fin 512) :
    bytes w (ix2 r l) = (((fieldByte s (x (ix2 r l))).toInt : ℝ) : EReal) := by
  have h := bitcast_field x (ori (andi w (broadcast S16x512 3233857728#32)) (broadcast S16x512 538976288#32)) s hs
    bitcasts_S64x512_w8_S16x512_w32 bitcasts_S16x512_w32_S64x512_w8
    (fun j => by
      have := hw j
      show (w j &&& 3233857728#32) ||| 538976288#32 = _
      rw [this]) r l
  show (((bitcast S64x512 8 (ori (andi w (broadcast S16x512 3233857728#32)) (broadcast S16x512 538976288#32)) bitcasts_S16x512_w32_S64x512_w8 (ix2 r l)).toInt : ℝ) : EReal) = _
  rw [h]

/-- The number that the kernel multiplies by, for the code byte `b` and the field `k`. -/
def level (k : Nat) (b : BitVec 8) : EReal := (((fieldByte (6 - 2 * k) b).toInt : ℝ) : EReal)

/-- Row `k * 64 + r` of an unpacked block is field `k` of row `r` of the codes. -/
theorem unpack4_apply (x : Vec Ideal S64x512 .i8) (i : Fin 256) (l : Fin 512) :
    unpack4 x (ix2 i l) = level (i.val / 64) (x (ix2 (⟨i.val % 64, Nat.mod_lt _ (by decide)⟩ : Fin 64) l)) := by
  have h0 : ∀ (r : Fin 64) (l : Fin 512), _ := bytes_apply x (shli (flipped x) (broadcast S16x512 6#32)) 6 (by omega) (fun _ => rfl)
  have h1 : ∀ (r : Fin 64) (l : Fin 512), _ := bytes_apply x (shli (flipped x) (broadcast S16x512 4#32)) 4 (by omega) (fun _ => rfl)
  have h2 : ∀ (r : Fin 64) (l : Fin 512), _ := bytes_apply x (shli (flipped x) (broadcast S16x512 2#32)) 2 (by omega) (fun _ => rfl)
  have h3 : ∀ (r : Fin 64) (l : Fin 512), _ := bytes_apply x (flipped x) 0 (by omega) (fun j => by rw [BitVec.shiftLeft_zero]; rfl)
  have hi := i.isLt
  refine (concatenate_rows (T := 256) (R := 64) (n := 512) [bytes (shli (flipped x) (broadcast S16x512 6#32)), bytes (shli (flipped x) (broadcast S16x512 4#32)),
    bytes (shli (flipped x) (broadcast S16x512 2#32)), bytes (flipped x)] _ (i.val / 64) (by simp; omega) ⟨i.val % 64, Nat.mod_lt _ (by decide)⟩ i l
    (by show i.val = i.val / 64 * 64 + i.val % 64; omega)).trans ?_
  have key : ∀ (k : ℕ) (hk : k < 4) (r : Fin 64), [bytes (shli (flipped x) (broadcast S16x512 6#32)),
      bytes (shli (flipped x) (broadcast S16x512 4#32)), bytes (shli (flipped x) (broadcast S16x512 2#32)), bytes (flipped x)][k] (ix2 r l)
        = level k (x (ix2 r l)) := by
    intro k hk r
    unfold level
    interval_cases k
    · exact h0 _ _
    · exact h1 _ _
    · exact h2 _ _
    · exact h3 _ _
  exact key _ (by omega) _

/-- The unpacked codes of all sixteen input blocks below each other. -/
def weights (xs : Fin 16 → Vec Ideal S64x512 .i8) : FVec Ideal S4096x512 .bf16 :=
  concatenate S4096x512 0 [⟨S256x512, unpack4 (xs 0)⟩, ⟨S256x512, unpack4 (xs 1)⟩, ⟨S256x512, unpack4 (xs 2)⟩, ⟨S256x512, unpack4 (xs 3)⟩,
    ⟨S256x512, unpack4 (xs 4)⟩, ⟨S256x512, unpack4 (xs 5)⟩, ⟨S256x512, unpack4 (xs 6)⟩, ⟨S256x512, unpack4 (xs 7)⟩,
    ⟨S256x512, unpack4 (xs 8)⟩, ⟨S256x512, unpack4 (xs 9)⟩, ⟨S256x512, unpack4 (xs 10)⟩, ⟨S256x512, unpack4 (xs 11)⟩,
    ⟨S256x512, unpack4 (xs 12)⟩, ⟨S256x512, unpack4 (xs 13)⟩, ⟨S256x512, unpack4 (xs 14)⟩, ⟨S256x512, unpack4 (xs 15)⟩]
    concatenates_S256x512_S256x512_S256x512_S256x512_S256x512_S256x512_S256x512_S256x512_S256x512_S256x512_S256x512_S256x512_S256x512_S256x512_S256x512_S256x512_S4096x512_d0

theorem weights_apply (xs : Fin 16 → Vec Ideal S64x512 .i8) (i : Fin 4096) (l : Fin 512) :
    weights xs (ix2 i l) = level (i.val / 64 % 4) (xs ⟨i.val / 256, by omega⟩ (ix2 (⟨i.val % 64, Nat.mod_lt _ (by decide)⟩ : Fin 64) l)) := by
  have hi := i.isLt
  refine (concatenate_rows (T := 4096) (R := 256) (n := 512) (List.ofFn fun a => unpack4 (xs a)) _ (i.val / 256) (by simp; omega)
    ⟨i.val % 256, Nat.mod_lt _ (by decide)⟩ i l (by show i.val = i.val / 256 * 256 + i.val % 256; omega)).trans ?_
  rw [List.getElem_ofFn, unpack4_apply]
  rw [show (⟨i.val % 256, Nat.mod_lt _ (by decide)⟩ : Fin 256).val / 64 = i.val / 64 % 4 by show i.val % 256 / 64 = _; omega]
  congr 3
  apply Fin.ext; show i.val % 256 % 64 = i.val % 64; omega

/-- Half a grid point's work: the rotated activations times the unpacked codes, scaled, times the second output factor. -/
def half (z : FVec Ideal S128x4096 .bf16) (xs : Fin 16 → Vec Ideal S64x512 .i8) (s : FVec Ideal S1x512 .f32) (u2 : FVec Ideal S512x512 .bf16) :
    FVec Ideal S128x512 .f32 :=
  matmul dot_S128x512_S512x512_S128x512_1_1_0_0_n_n none
    (truncf .bf16 (mulf (matmul dot_S128x4096_S4096x512_S128x512_1_0_0_1_n_n none z (weights xs) (constant S128x512 .f32 0x00000000#32))
      (broadcastTo S128x512 (mulf (shapeCast S1x512 s shapeCasts_S1x512_S1x512) (broadcast S1x512 (Scalar.ofBits .f32 0x3C800000#32)))
        broadcasts_S1x512_S128x512)) bitsLt_bf16_f32)
    u2 (constant S128x512 .f32 0x00000000#32)

theorem half_apply (z : FVec Ideal S128x4096 .bf16) (xs : Fin 16 → Vec Ideal S64x512 .i8) (s : FVec Ideal S1x512 .f32) (u2 : FVec Ideal S512x512 .bf16)
    (t : Fin 128) (b : Fin 512) :
    half z xs s u2 (ix2 t b) = ∑ o : Fin 512, (∑ i : Fin 4096, z (ix2 t i)
      * level (i.val / 64 % 4) (xs ⟨i.val / 256, by omega⟩ (ix2 (⟨i.val % 64, Nat.mod_lt _ (by decide)⟩ : Fin 64) o)))
        * (s (ix2 0 o) * Ideal.ofBits .f32 0x3C800000#32) * u2 (ix2 b o) := by
  have hw := weights_apply xs
  unfold half
  generalize weights xs = w at *
  pointwise
  simp only [hw]

end Cert.Body

end
-- ==== Proof.Body.Slices.lean ====
/- The slice of products a grid point stores: sixteen pieces, one for each chunk of eight tokens, read back at an index. -/
module

public import proofs.«01_k».proof.Proof.Body.Product
public import proofs.«01_k».proof.Proof.Gen.KernelIdeal.Frame
public import Idealize.ShloMosaic.Lib.Pipeline.ValueKit.Tiles

@[expose] public section

set_option maxRecDepth 16384

noncomputable section

namespace Cert.Body

open Idealize.ShloMosaic
open Cert.KernelIdeal Cert.KernelIdeal.Gen

/-- Reading a buffer after writes at a place where every piece that holds it agrees. -/
theorem read_writes_of_allAt {sig' : RefSig} {κ : Kind} {sp : Space} {s : Shape} {e : EltTy} (v : View sig' κ sp s e)
    (f : v.ty.Contents (Elt Ideal)) (L : List (View.Piece (Elt Ideal) s e)) (y : s.Idx) (val : Elt Ideal e)
    (hc : ∃ p ∈ L, y ∈ p.1.set) (h : View.AllAt L y val) : v.read (Elt Ideal) (v.writes (Elt Ideal) f L) y = val :=
  (View.read_writes_apply_eq_canon v f y L hc).trans (View.canon_eq_of_allAt L y val hc h)

/-- What one piece of a slice holds: eight rows of one product, then eight rows of the other. -/
def slicePay (o : Nat) (h : S128x512.Slices ![o, 0] S8x512) (v0 v1 : FVec Ideal S128x512 .f32) : FVec Ideal S1x16x512 .bf16 :=
  shapeCast S1x16x512 (truncf .bf16 (concatenate S16x512 0 [⟨S8x512, extractStridedSlice S8x512 ![o, 0] v0 h⟩,
    ⟨S8x512, extractStridedSlice S8x512 ![o, 0] v1 h⟩] concatenates_S8x512_S8x512_S16x512_d0) bitsLt_bf16_f32) shapeCasts_S16x512_S1x16x512

/-- The element of the two products that stands in row `u` of the piece of chunk `a`. -/
def pick (v0 v1 : FVec Ideal S128x512 .f32) (a : Fin 16) (u : Nat) (b : Fin 512) : EReal :=
  (if u / 8 = 0 then v0 else v1) (ix2 (⟨8 * a.val + u % 8, by omega⟩ : Fin 128) b)

theorem stack_apply (o : Nat) (ho : o + 8 ≤ 128) (h : S128x512.Slices ![o, 0] S8x512) (v0 v1 : FVec Ideal S128x512 .f32) (u : Fin 16) (b : Fin 512) :
    concatenate S16x512 0 [⟨S8x512, extractStridedSlice S8x512 ![o, 0] v0 h⟩, ⟨S8x512, extractStridedSlice S8x512 ![o, 0] v1 h⟩]
      concatenates_S8x512_S8x512_S16x512_d0 (ix2 u b) = (if u.val / 8 = 0 then v0 else v1) (ix2 (⟨o + u.val % 8, by omega⟩ : Fin 128) b) := by
  have hu := u.isLt
  refine (concatenate_rows (T := 16) (R := 8) (n := 512) [extractStridedSlice S8x512 ![o, 0] v0 h, extractStridedSlice S8x512 ![o, 0] v1 h]
    concatenates_S8x512_S8x512_S16x512_d0 (u.val / 8) (by simp; omega) ⟨u.val % 8, by omega⟩ u b (by show u.val = u.val / 8 * 8 + u.val % 8; omega)).trans ?_
  have key : ∀ (k : ℕ) (hk : k < 2) (r : Fin 8), [extractStridedSlice S8x512 ![o, 0] v0 h, extractStridedSlice S8x512 ![o, 0] v1 h][k] (ix2 r b)
      = (if k = 0 then v0 else v1) (ix2 (⟨o + r.val, by omega⟩ : Fin 128) b) := by
    intro k hk r
    interval_cases k
    · show extractStridedSlice S8x512 ![o, 0] v0 h (ix2 r b) = v0 _
      pointwise
    · show extractStridedSlice S8x512 ![o, 0] v1 h (ix2 r b) = v1 _
      pointwise
  exact key _ (by omega) _

theorem slicePay_apply (o : Nat) (ho : o + 8 ≤ 128) (h : S128x512.Slices ![o, 0] S8x512) (v0 v1 : FVec Ideal S128x512 .f32) (z : Fin 1) (u : Fin 16) (b : Fin 512) :
    slicePay o h v0 v1 (ix3 z u b) = (if u.val / 8 = 0 then v0 else v1) (ix2 (⟨o + u.val % 8, by omega⟩ : Fin 128) b) := by
  rw [← stack_apply o ho h]
  unfold slicePay
  generalize concatenate S16x512 0 _ _ = w
  pointwise

theorem slice_tile (R : Nat) (y : S16x224x512.Idx) (v0 v1 : FVec Ideal S128x512 .f32) (k : Nat) (hk : k < 16) (o : Nat) (ho : o = 8 * k)
    (h : S128x512.Slices ![o, 0] S8x512) (off : Fin 3 → Nat) (hoff : off = ![k, R, 0]) :
    View.TileAt (Val := Elt Ideal) (S := S16x224x512) (e := .bf16) y off ![1, 16, 512] (slicePay o h v0 v1) (pick v0 v1 (y 0) ((y 1).val - R) (y 2)) := by
  subst hoff ho
  intro x hx
  have h0 := hx 0; have h1 := hx 1; have h2 := hx 2
  simp only [Matrix.cons_val_zero, Matrix.cons_val_one, Matrix.cons_val] at h0 h1 h2
  obtain ⟨a, u, b, rfl⟩ : ∃ (a : Fin 1) (u : Fin 16) (b : Fin 512), x = ix3 a u b := ⟨x 0, x 1, x 2, by funext q; fin_cases q <;> rfl⟩
  refine (slicePay_apply _ (by omega) h v0 v1 a u b).trans ?_
  change (y 0).val = k + a.val at h0
  change (y 1).val = R + u.val at h1
  change (y 2).val = 0 + b.val at h2
  have ha := a.isLt
  unfold pick
  have e1 : (y 1).val - R = u.val := by omega
  rw [e1]
  have e2 : b = y 2 := Fin.ext (by omega)
  rw [e2]
  exact congrArg (fun q => (if u.val / 8 = 0 then v0 else v1) (ix2 q (y 2))) (Fin.ext (by
    show 8 * k + u.val % 8 = 8 * (y 0).val + u.val % 8
    omega))

/-- The pieces of the slice of a grid point, last first. -/
def sliceList (i : grid0.Coords) (v0 v1 : FVec Ideal S128x512 .f32) : List (View.Piece (Elt Ideal) S16x224x512 .bf16) :=
  [⟨Rect.unit (k0_off16 i) ![1, 16, 512] (k0_off16_inb i), slicePay 120 slices_S128x512_o120_0_S8x512 v0 v1⟩,
    ⟨Rect.unit (k0_off15 i) ![1, 16, 512] (k0_off15_inb i), slicePay 112 slices_S128x512_o112_0_S8x512 v0 v1⟩,
    ⟨Rect.unit (k0_off14 i) ![1, 16, 512] (k0_off14_inb i), slicePay 104 slices_S128x512_o104_0_S8x512 v0 v1⟩,
    ⟨Rect.unit (k0_off13 i) ![1, 16, 512] (k0_off13_inb i), slicePay 96 slices_S128x512_o96_0_S8x512 v0 v1⟩,
    ⟨Rect.unit (k0_off12 i) ![1, 16, 512] (k0_off12_inb i), slicePay 88 slices_S128x512_o88_0_S8x512 v0 v1⟩,
    ⟨Rect.unit (k0_off11 i) ![1, 16, 512] (k0_off11_inb i), slicePay 80 slices_S128x512_o80_0_S8x512 v0 v1⟩,
    ⟨Rect.unit (k0_off10 i) ![1, 16, 512] (k0_off10_inb i), slicePay 72 slices_S128x512_o72_0_S8x512 v0 v1⟩,
    ⟨Rect.unit (k0_off9 i) ![1, 16, 512] (k0_off9_inb i), slicePay 64 slices_S128x512_o64_0_S8x512 v0 v1⟩,
    ⟨Rect.unit (k0_off8 i) ![1, 16, 512] (k0_off8_inb i), slicePay 56 slices_S128x512_o56_0_S8x512 v0 v1⟩,
    ⟨Rect.unit (k0_off7 i) ![1, 16, 512] (k0_off7_inb i), slicePay 48 slices_S128x512_o48_0_S8x512 v0 v1⟩,
    ⟨Rect.unit (k0_off6 i) ![1, 16, 512] (k0_off6_inb i), slicePay 40 slices_S128x512_o40_0_S8x512 v0 v1⟩,
    ⟨Rect.unit (k0_off5 i) ![1, 16, 512] (k0_off5_inb i), slicePay 32 slices_S128x512_o32_0_S8x512 v0 v1⟩,
    ⟨Rect.unit (k0_off4 i) ![1, 16, 512] (k0_off4_inb i), slicePay 24 slices_S128x512_o24_0_S8x512 v0 v1⟩,
    ⟨Rect.unit (k0_off3 i) ![1, 16, 512] (k0_off3_inb i), slicePay 16 slices_S128x512_o16_0_S8x512 v0 v1⟩,
    ⟨Rect.unit (k0_off2 i) ![1, 16, 512] (k0_off2_inb i), slicePay 8 slices_S128x512_o8_0_S8x512 v0 v1⟩,
    ⟨Rect.unit (k0_off1 i) ![1, 16, 512] (k0_off1_inb i), slicePay 0 slices_S128x512_o0_0_S8x512 v0 v1⟩]

theorem sliceList_allAt (i : grid0.Coords) (v0 v1 : FVec Ideal S128x512 .f32) (y : S16x224x512.Idx) :
    View.AllAt (sliceList i v0 v1) y (pick v0 v1 (y 0) ((y 1).val - 16 * (i 0).val) (y 2)) := by
  unfold sliceList
  refine View.allAt_cons_unit _ _ _ _ _ (slice_tile _ y v0 v1 15 (by decide) _ rfl _ _ (k0_off16_eq i)) ?_
  refine View.allAt_cons_unit _ _ _ _ _ (slice_tile _ y v0 v1 14 (by decide) _ rfl _ _ (k0_off15_eq i)) ?_
  refine View.allAt_cons_unit _ _ _ _ _ (slice_tile _ y v0 v1 13 (by decide) _ rfl _ _ (k0_off14_eq i)) ?_
  refine View.allAt_cons_unit _ _ _ _ _ (slice_tile _ y v0 v1 12 (by decide) _ rfl _ _ (k0_off13_eq i)) ?_
  refine View.allAt_cons_unit _ _ _ _ _ (slice_tile _ y v0 v1 11 (by decide) _ rfl _ _ (k0_off12_eq i)) ?_
  refine View.allAt_cons_unit _ _ _ _ _ (slice_tile _ y v0 v1 10 (by decide) _ rfl _ _ (k0_off11_eq i)) ?_
  refine View.allAt_cons_unit _ _ _ _ _ (slice_tile _ y v0 v1 9 (by decide) _ rfl _ _ (k0_off10_eq i)) ?_
  refine View.allAt_cons_unit _ _ _ _ _ (slice_tile _ y v0 v1 8 (by decide) _ rfl _ _ (k0_off9_eq i)) ?_
  refine View.allAt_cons_unit _ _ _ _ _ (slice_tile _ y v0 v1 7 (by decide) _ rfl _ _ (k0_off8_eq i)) ?_
  refine View.allAt_cons_unit _ _ _ _ _ (slice_tile _ y v0 v1 6 (by decide) _ rfl _ _ (k0_off7_eq i)) ?_
  refine View.allAt_cons_unit _ _ _ _ _ (slice_tile _ y v0 v1 5 (by decide) _ rfl _ _ (k0_off6_eq i)) ?_
  refine View.allAt_cons_unit _ _ _ _ _ (slice_tile _ y v0 v1 4 (by decide) _ rfl _ _ (k0_off5_eq i)) ?_
  refine View.allAt_cons_unit _ _ _ _ _ (slice_tile _ y v0 v1 3 (by decide) _ rfl _ _ (k0_off4_eq i)) ?_
  refine View.allAt_cons_unit _ _ _ _ _ (slice_tile _ y v0 v1 2 (by decide) _ rfl _ _ (k0_off3_eq i)) ?_
  refine View.allAt_cons_unit _ _ _ _ _ (slice_tile _ y v0 v1 1 (by decide) _ rfl _ _ (k0_off2_eq i)) ?_
  refine View.allAt_cons_unit _ _ _ _ _ (slice_tile _ y v0 v1 0 (by decide) _ rfl _ _ (k0_off1_eq i)) ?_
  exact View.allAt_nil _ _

theorem sliceList_cover (i : grid0.Coords) (v0 v1 : FVec Ideal S128x512 .f32) (y : S16x224x512.Idx)
    (h1 : 16 * (i 0).val ≤ (y 1).val) (h2 : (y 1).val < 16 * (i 0).val + 16) : ∃ p ∈ sliceList i v0 v1, y ∈ p.1.set := by
  have key : ∀ (k : Nat) (off : Fin 3 → Nat) (inb : ∀ a, off a + (![1, 16, 512] : Fin 3 → Nat) a ≤ S16x224x512.size a), off = ![k, 16 * (i 0).val, 0] →
      (y 0).val = k → y ∈ (Rect.unit (s := S16x224x512) off ![1, 16, 512] inb).set := by
    intro k off inb hoff hk
    subst hoff
    refine Rect.mem_set_unit.mpr fun a => ?_
    fin_cases a
    · show k ≤ (y 0).val ∧ (y 0).val < k + 1; omega
    · show 16 * (i 0).val ≤ (y 1).val ∧ (y 1).val < 16 * (i 0).val + 16; omega
    · show 0 ≤ (y 2).val ∧ (y 2).val < 0 + 512
      have : (y 2).val < 512 := (y 2).isLt
      omega
  unfold sliceList
  simp only [List.mem_cons, exists_eq_or_imp]
  have hy : (y 0).val < 16 := (y 0).isLt
  generalize hk : (y 0).val = k at hy
  interval_cases k
  · exact Or.inr (Or.inr (Or.inr (Or.inr (Or.inr (Or.inr (Or.inr (Or.inr (Or.inr (Or.inr (Or.inr (Or.inr (Or.inr (Or.inr (Or.inr (Or.inl (key _ _ _ (k0_off1_eq i) hk))))))))))))))))
  · exact Or.inr (Or.inr (Or.inr (Or.inr (Or.inr (Or.inr (Or.inr (Or.inr (Or.inr (Or.inr (Or.inr (Or.inr (Or.inr (Or.inr (Or.inl (key _ _ _ (k0_off2_eq i) hk)))))))))))))))
  · exact Or.inr (Or.inr (Or.inr (Or.inr (Or.inr (Or.inr (Or.inr (Or.inr (Or.inr (Or.inr (Or.inr (Or.inr (Or.inr (Or.inl (key _ _ _ (k0_off3_eq i) hk))))))))))))))
  · exact Or.inr (Or.inr (Or.inr (Or.inr (Or.inr (Or.inr (Or.inr (Or.inr (Or.inr (Or.inr (Or.inr (Or.inr (Or.inl (key _ _ _ (k0_off4_eq i) hk)))))))))))))
  · exact Or.inr (Or.inr (Or.inr (Or.inr (Or.inr (Or.inr (Or.inr (Or.inr (Or.inr (Or.inr (Or.inr (Or.inl (key _ _ _ (k0_off5_eq i) hk))))))))))))
  · exact Or.inr (Or.inr (Or.inr (Or.inr (Or.inr (Or.inr (Or.inr (Or.inr (Or.inr (Or.inr (Or.inl (key _ _ _ (k0_off6_eq i) hk)))))))))))
  · exact Or.inr (Or.inr (Or.inr (Or.inr (Or.inr (Or.inr (Or.inr (Or.inr (Or.inr (Or.inl (key _ _ _ (k0_off7_eq i) hk))))))))))
  · exact Or.inr (Or.inr (Or.inr (Or.inr (Or.inr (Or.inr (Or.inr (Or.inr (Or.inl (key _ _ _ (k0_off8_eq i) hk)))))))))
  · exact Or.inr (Or.inr (Or.inr (Or.inr (Or.inr (Or.inr (Or.inr (Or.inl (key _ _ _ (k0_off9_eq i) hk))))))))
  · exact Or.inr (Or.inr (Or.inr (Or.inr (Or.inr (Or.inr (Or.inl (key _ _ _ (k0_off10_eq i) hk)))))))
  · exact Or.inr (Or.inr (Or.inr (Or.inr (Or.inr (Or.inl (key _ _ _ (k0_off11_eq i) hk))))))
  · exact Or.inr (Or.inr (Or.inr (Or.inr (Or.inl (key _ _ _ (k0_off12_eq i) hk)))))
  · exact Or.inr (Or.inr (Or.inr (Or.inl (key _ _ _ (k0_off13_eq i) hk))))
  · exact Or.inr (Or.inr (Or.inl (key _ _ _ (k0_off14_eq i) hk)))
  · exact Or.inr (Or.inl (key _ _ _ (k0_off15_eq i) hk))
  · exact Or.inl (key _ _ _ (k0_off16_eq i) hk)

theorem sliceList_miss (i : grid0.Coords) (v0 v1 : FVec Ideal S128x512 .f32) (y : S16x224x512.Idx)
    (h : (y 1).val < 16 * (i 0).val ∨ 16 * (i 0).val + 16 ≤ (y 1).val) : ∀ p ∈ sliceList i v0 v1, y ∉ p.1.set := by
  have key : ∀ (k : Nat) (off : Fin 3 → Nat) (inb : ∀ a, off a + (![1, 16, 512] : Fin 3 → Nat) a ≤ S16x224x512.size a), off = ![k, 16 * (i 0).val, 0] →
      y ∉ (Rect.unit (s := S16x224x512) off ![1, 16, 512] inb).set := by
    intro k off inb hoff hm
    subst hoff
    have := Rect.mem_set_unit.mp hm 1
    change 16 * (i 0).val ≤ (y 1).val ∧ (y 1).val < 16 * (i 0).val + 16 at this
    omega
  unfold sliceList
  simp only [List.forall_mem_cons]
  exact ⟨key _ _ _ (k0_off16_eq i), key _ _ _ (k0_off15_eq i), key _ _ _ (k0_off14_eq i), key _ _ _ (k0_off13_eq i), key _ _ _ (k0_off12_eq i), key _ _ _ (k0_off11_eq i), key _ _ _ (k0_off10_eq i), key _ _ _ (k0_off9_eq i), key _ _ _ (k0_off8_eq i), key _ _ _ (k0_off7_eq i), key _ _ _ (k0_off6_eq i), key _ _ _ (k0_off5_eq i), key _ _ _ (k0_off4_eq i), key _ _ _ (k0_off3_eq i), key _ _ _ (k0_off2_eq i), key _ _ _ (k0_off1_eq i), fun p hp => absurd hp List.not_mem_nil⟩

/-- The buffer after a slice is stored: the slice where it stands, what was there elsewhere. -/
theorem read_slice (i : grid0.Coords) (v0 v1 : FVec Ideal S128x512 .f32) {sig' : RefSig} {κ : Kind} {sp : Space}
    (v : View sig' κ sp S16x224x512 .bf16) (f : v.ty.Contents (Elt Ideal)) (y : S16x224x512.Idx) :
    v.read (Elt Ideal) (v.writes (Elt Ideal) f (sliceList i v0 v1)) y
      = if 16 * (i 0).val ≤ (y 1).val ∧ (y 1).val < 16 * (i 0).val + 16 then pick v0 v1 (y 0) ((y 1).val - 16 * (i 0).val) (y 2)
        else v.read (Elt Ideal) f y := by
  split
  · rename_i h
    exact read_writes_of_allAt v f _ y _ (sliceList_cover i v0 v1 y h.1 h.2) (sliceList_allAt i v0 v1 y)
  · rename_i h
    exact View.read_writes_apply_of_forall_not_mem v f y _ (sliceList_miss i v0 v1 y (by omega))

end Cert.Body

end
-- ==== Proof.Body.Loads.lean ====
/- The loads of the kernel body, read at an index. -/
module

public import proofs.«01_k».proof.Proof.Body.Slices
public import Idealize.ShloMosaic.Lib.WholeRead

@[expose] public section

set_option maxRecDepth 16384

noncomputable section

namespace Cert.Body

open Cert.KernelIdeal Cert.KernelIdeal.Gen
open Idealize.ShloMosaic Idealize.ShloMosaic.TcCoe

/-- Sixty-four rows of one half of the packed weights, as loaded. -/
def codeLoad {arg4 : Memref sig .tc .vmem S1024x1024 .i8} (harg4 : arg4.IsWhole) (x3 : Vec Ideal S1024x1024 .i8) (h : Fin 2) (a : Fin 16) : Vec Ideal S64x512 .i8 :=
  View.readAt (Elt Ideal) arg4.view (Rect.unit (s := S1024x1024) ![64 * a.val, 512 * h.val] S64x512.size (by
    intro q
    fin_cases q
    · show 64 * a.val + 64 ≤ 1024; omega
    · show 512 * h.val + 512 ≤ 1024; omega)).toLoadRect (harg4.unread x3)

/-- One half of the scales, as loaded. -/
def scaleLoad {arg5 : Memref sig .tc .vmem S1x1024 .f32} (harg5 : arg5.IsWhole) (x4 : Vec Ideal S1x1024 .f32) (h : Fin 2) : Vec Ideal S1x512 .f32 :=
  View.readAt (Elt Ideal) arg5.view (Rect.unit (s := S1x1024) ![0, 512 * h.val] S1x512.size (by
    intro q
    fin_cases q
    · show 0 + 1 ≤ 1; omega
    · show 512 * h.val + 512 ≤ 1024; omega)).toLoadRect (harg5.unread x4)

/-- The inner output factor, as loaded. -/
def factorLoad {arg7 : Memref sig .tc .vmem S512x512 .bf16} (harg7 : arg7.IsWhole) (x6 : Vec Ideal S512x512 .bf16) : Vec Ideal S512x512 .bf16 :=
  View.readAt (Elt Ideal) arg7.view (Rect.unit (s := S512x512) ![0, 0] S512x512.size (by
    intro q
    fin_cases q
    · show 0 + 512 ≤ 512; omega
    · show 0 + 512 ≤ 512; omega)).toLoadRect (harg7.unread x6)

/-- The rotated input, as loaded. -/
def inputLoad {arg10 : Memref sig .tc .vmem S128x4096 .bf16} (harg10 : arg10.IsWhole) (xs1 : Vec Ideal S128x4096 .bf16) : Vec Ideal S128x4096 .bf16 :=
  View.readAt (Elt Ideal) arg10.view (Rect.unit (s := S128x4096) ![0, 0] S128x4096.size (by
    intro q
    fin_cases q
    · show 0 + 128 ≤ 128; omega
    · show 0 + 4096 ≤ 4096; omega)).toLoadRect (harg10.unread xs1)

theorem codeLoad_apply {arg4 : Memref sig .tc .vmem S1024x1024 .i8} (harg4 : arg4.IsWhole) (x3 : Vec Ideal S1024x1024 .i8) (h : Fin 2) (a : Fin 16) (r : Fin 64) (l : Fin 512) :
    codeLoad harg4 x3 h a (ix2 r l) = x3 (ix2 (⟨64 * a.val + r.val, by omega⟩ : Fin 1024) (⟨512 * h.val + l.val, by omega⟩ : Fin 1024)) := by
  unfold codeLoad
  rw [harg4.readAt_unread]
  refine congrArg x3 (funext fun q => Fin.ext ?_)
  fin_cases q
  · show 64 * a.val + 1 * r.val = 64 * a.val + r.val; omega
  · show 512 * h.val + 1 * l.val = 512 * h.val + l.val; omega

theorem scaleLoad_apply {arg5 : Memref sig .tc .vmem S1x1024 .f32} (harg5 : arg5.IsWhole) (x4 : Vec Ideal S1x1024 .f32) (h : Fin 2) (r : Fin 1) (l : Fin 512) :
    scaleLoad harg5 x4 h (ix2 r l) = x4 (ix2 (0 : Fin 1) (⟨512 * h.val + l.val, by omega⟩ : Fin 1024)) := by
  unfold scaleLoad
  rw [harg5.readAt_unread]
  refine congrArg x4 (funext fun q => Fin.ext ?_)
  fin_cases q
  · show 0 + 1 * r.val = 0; omega
  · show 512 * h.val + 1 * l.val = 512 * h.val + l.val; omega

theorem factorLoad_eq {arg7 : Memref sig .tc .vmem S512x512 .bf16} (harg7 : arg7.IsWhole) (x6 : Vec Ideal S512x512 .bf16) : factorLoad harg7 x6 = x6 := by
  funext j
  unfold factorLoad
  rw [harg7.readAt_unread]
  refine congrArg x6 (funext fun q => Fin.ext ?_)
  fin_cases q
  · show 0 + 1 * (j 0).val = (j 0).val; omega
  · show 0 + 1 * (j 1).val = (j 1).val; omega

theorem inputLoad_eq {arg10 : Memref sig .tc .vmem S128x4096 .bf16} (harg10 : arg10.IsWhole) (xs1 : Vec Ideal S128x4096 .bf16) : inputLoad harg10 xs1 = xs1 := by
  funext j
  unfold inputLoad
  rw [harg10.readAt_unread]
  refine congrArg xs1 (funext fun q => Fin.ext ?_)
  fin_cases q
  · show 0 + 1 * (j 0).val = (j 0).val; omega
  · show 0 + 1 * (j 1).val = (j 1).val; omega

/-- One half of a grid point's products. -/
def halfOf {arg4 : Memref sig .tc .vmem S1024x1024 .i8} (harg4 : arg4.IsWhole) {arg5 : Memref sig .tc .vmem S1x1024 .f32} (harg5 : arg5.IsWhole)
    {arg7 : Memref sig .tc .vmem S512x512 .bf16} (harg7 : arg7.IsWhole) (z : Vec Ideal S128x4096 .bf16) (x3 : Vec Ideal S1024x1024 .i8)
    (x4 : Vec Ideal S1x1024 .f32) (x6 : Vec Ideal S512x512 .bf16) (h : Fin 2) : FVec Ideal S128x512 .f32 :=
  half z (codeLoad harg4 x3 h) (scaleLoad harg5 x4 h) (factorLoad harg7 x6)

/-- One block of the input, as loaded. -/
def tokenLoad {arg1 : Memref sig .tc .vmem S128x4096 .bf16} (harg1 : arg1.IsWhole) (x0 : Vec Ideal S128x4096 .bf16) (c : Fin 16) : Vec Ideal S128x256 .bf16 :=
  View.readAt (Elt Ideal) arg1.view (Rect.unit (s := S128x4096) ![0, 256 * c.val] S128x256.size (by
    intro q
    fin_cases q
    · show 0 + 128 ≤ 128; omega
    · show 256 * c.val + 256 ≤ 4096; omega)).toLoadRect (harg1.unread x0)

theorem tokenLoad_apply {arg1 : Memref sig .tc .vmem S128x4096 .bf16} (harg1 : arg1.IsWhole) (x0 : Vec Ideal S128x4096 .bf16) (c : Fin 16) (r : Fin 128) (l : Fin 256) :
    tokenLoad harg1 x0 c (ix2 r l) = x0 (ix2 r (⟨256 * c.val + l.val, by omega⟩ : Fin 4096)) := by
  unfold tokenLoad
  rw [harg1.readAt_unread]
  refine congrArg x0 (funext fun q => Fin.ext ?_)
  fin_cases q
  · show 0 + 1 * r.val = r.val; omega
  · show 256 * c.val + 1 * l.val = 256 * c.val + l.val; omega

/-- The outer input factor, as loaded. -/
def outerInLoad {arg2 : Memref sig .tc .vmem S16x16 .bf16} (harg2 : arg2.IsWhole) (x1 : Vec Ideal S16x16 .bf16) : Vec Ideal S16x16 .bf16 :=
  View.readAt (Elt Ideal) arg2.view (Rect.unit (s := S16x16) ![0, 0] S16x16.size (by
    intro q
    fin_cases q
    · show 0 + 16 ≤ 16; omega
    · show 0 + 16 ≤ 16; omega)).toLoadRect (harg2.unread x1)

theorem outerInLoad_eq {arg2 : Memref sig .tc .vmem S16x16 .bf16} (harg2 : arg2.IsWhole) (x1 : Vec Ideal S16x16 .bf16) : outerInLoad harg2 x1 = x1 := by
  funext j
  unfold outerInLoad
  rw [harg2.readAt_unread]
  refine congrArg x1 (funext fun q => Fin.ext ?_)
  fin_cases q
  · show 0 + 1 * (j 0).val = (j 0).val; omega
  · show 0 + 1 * (j 1).val = (j 1).val; omega

/-- The inner input factor, as loaded. -/
def innerInLoad {arg3 : Memref sig .tc .vmem S256x256 .bf16} (harg3 : arg3.IsWhole) (x2 : Vec Ideal S256x256 .bf16) : Vec Ideal S256x256 .bf16 :=
  View.readAt (Elt Ideal) arg3.view (Rect.unit (s := S256x256) ![0, 0] S256x256.size (by
    intro q
    fin_cases q
    · show 0 + 256 ≤ 256; omega
    · show 0 + 256 ≤ 256; omega)).toLoadRect (harg3.unread x2)

theorem innerInLoad_eq {arg3 : Memref sig .tc .vmem S256x256 .bf16} (harg3 : arg3.IsWhole) (x2 : Vec Ideal S256x256 .bf16) : innerInLoad harg3 x2 = x2 := by
  funext j
  unfold innerInLoad
  rw [harg3.readAt_unread]
  refine congrArg x2 (funext fun q => Fin.ext ?_)
  fin_cases q
  · show 0 + 1 * (j 0).val = (j 0).val; omega
  · show 0 + 1 * (j 1).val = (j 1).val; omega

/-- The outer output factor, as loaded. -/
def outerOutLoad {arg6 : Memref sig .tc .vmem S28x28 .bf16} (harg6 : arg6.IsWhole) (x5 : Vec Ideal S28x28 .bf16) : Vec Ideal S28x28 .bf16 :=
  View.readAt (Elt Ideal) arg6.view (Rect.unit (s := S28x28) ![0, 0] S28x28.size (by
    intro q
    fin_cases q
    · show 0 + 28 ≤ 28; omega
    · show 0 + 28 ≤ 28; omega)).toLoadRect (harg6.unread x5)

theorem outerOutLoad_eq {arg6 : Memref sig .tc .vmem S28x28 .bf16} (harg6 : arg6.IsWhole) (x5 : Vec Ideal S28x28 .bf16) : outerOutLoad harg6 x5 = x5 := by
  funext j
  unfold outerOutLoad
  rw [harg6.readAt_unread]
  refine congrArg x5 (funext fun q => Fin.ext ?_)
  fin_cases q
  · show 0 + 1 * (j 0).val = (j 0).val; omega
  · show 0 + 1 * (j 1).val = (j 1).val; omega

/-- Eight tokens of the stored products, as loaded. -/
def productLoad (arg11 : Memref sig .tc .vmem S16x224x512 .bf16) (f : arg11.view.ty.Contents (Elt Ideal)) (k : Fin 16) : Vec Ideal S1x224x512 .bf16 :=
  View.readAt (Elt Ideal) arg11.view (Rect.unit (s := S16x224x512) ![k.val, 0, 0] S1x224x512.size (by
    intro q
    fin_cases q
    · show k.val + 1 ≤ 16; omega
    · show 0 + 224 ≤ 224; omega
    · show 0 + 512 ≤ 512; omega)).toLoadRect f

theorem productLoad_apply (arg11 : Memref sig .tc .vmem S16x224x512 .bf16) (f : arg11.view.ty.Contents (Elt Ideal)) (k : Fin 16) (r : Fin 224) (b : Fin 512) :
    productLoad arg11 f k (ix3 (0 : Fin 1) r b) = arg11.view.read (Elt Ideal) f (ix3 k r b) := by
  unfold productLoad
  rw [View.readAt_apply]
  refine congrArg (arg11.view.read (Elt Ideal) f) (funext fun q => Fin.ext ?_)
  fin_cases q
  · show k.val + 1 * 0 = k.val; omega
  · show 0 + 1 * r.val = r.val; omega
  · show 0 + 1 * b.val = b.val; omega

end Cert.Body

end
-- ==== Proof.Body.Kron.lean ====
/- The matrices that the kernel builds from index arithmetic: the permutation of the columns of the inner input factor, and the
   Kronecker products of the outer factors with an identity. Read at an index. -/
module

public import proofs.«01_k».proof.Proof.Body.Slices

@[expose] public section

set_option maxRecDepth 16384

noncomputable section

namespace Cert.Body

open Idealize.ShloMosaic
open Cert.KernelIdeal Cert.KernelIdeal.Gen

/-! ## Sums -/

theorem row_lt {A B N : Nat} (hN : A * B = N) (c : Fin A) (t : Fin B) : c.val * B + t.val < N :=
  calc c.val * B + t.val < c.val * B + B := Nat.add_lt_add_left t.isLt _
    _ = (c.val + 1) * B := (Nat.succ_mul _ _).symm
    _ ≤ A * B := Nat.mul_le_mul_right _ c.isLt
    _ = N := hN

theorem sum_blocks {A B N : Nat} (hN : A * B = N) (f : Fin N → EReal) :
    ∑ s, f s = ∑ c : Fin A, ∑ t : Fin B, f ⟨c.val * B + t.val, row_lt hN c t⟩ := by
  subst hN
  rw [← Fintype.sum_prod_type']
  refine (Fintype.sum_equiv finProdFinEquiv _ _ fun p => ?_).symm
  congr 1
  apply Fin.ext
  show p.1.val * B + p.2.val = p.2.val + B * p.1.val
  rw [Nat.mul_comm, Nat.add_comm]

theorem sum_pick {n : Nat} (k : Fin n) (f : Fin n → EReal) : ∑ i, f i * (if i = k then 1 else 0) = f k := by
  simp [mul_ite, mul_one, mul_zero, Finset.sum_ite_eq']

theorem pick_sum {n : Nat} (k : Fin n) (f : Fin n → EReal) : ∑ i, (if k = i then 1 else 0) * f i = f k := by
  simp [ite_mul, one_mul, zero_mul, Finset.sum_ite_eq]

/-! ## Division and remainder as the kernel computes them on words -/

/-- The quotient rounded down, as printed. -/
def fdivWord (x d : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt d 0#32)) (Scalar.extui (Scalar.cmpi .slt d 0#32))))
    (IntOp.cmpi .ne (IntOp.remsi .vector x d) 0#32)) (IntOp.subi (IntOp.divsi .vector x d) 1#32) (IntOp.divsi .vector x d)

/-- The remainder of the division rounded down, as printed. -/
def fmodWord (x d : BitVec 32) : BitVec 32 :=
  Scalar.select (IntOp.andi (IntOp.xori (IntOp.cmpi .slt (IntOp.remsi .vector x (Scalar.select (Scalar.cmpi .eq d 0#32) 1#32 d)) 0#32)
      (Scalar.cmpi .slt (Scalar.select (Scalar.cmpi .eq d 0#32) 1#32 d) 0#32))
    (IntOp.cmpi .ne (IntOp.remsi .vector x (Scalar.select (Scalar.cmpi .eq d 0#32) 1#32 d)) 0#32))
    (IntOp.addi (IntOp.remsi .vector x (Scalar.select (Scalar.cmpi .eq d 0#32) 1#32 d)) (Scalar.select (Scalar.cmpi .eq d 0#32) 1#32 d))
    (IntOp.remsi .vector x (Scalar.select (Scalar.cmpi .eq d 0#32) 1#32 d))

theorem fdiv_16 : ∀ j : Fin 256, fdivWord (BitVec.ofNat 32 j.val) 16#32 = BitVec.ofNat 32 (j.val / 16) := by decide +kernel
theorem fmod_16 : ∀ j : Fin 256, fmodWord (BitVec.ofNat 32 j.val) 16#32 = BitVec.ofNat 32 (j.val % 16) := by decide +kernel
theorem fdiv_8 : ∀ j : Fin 224, fdivWord (BitVec.ofNat 32 j.val) 8#32 = BitVec.ofNat 32 (j.val / 8) := by decide +kernel
theorem fmod_8 : ∀ j : Fin 224, fmodWord (BitVec.ofNat 32 j.val) 8#32 = BitVec.ofNat 32 (j.val % 8) := by decide +kernel
theorem perm_word : ∀ j : Fin 256, IntOp.addi (IntOp.muli (fmodWord (BitVec.ofNat 32 j.val) 64#32) 4#32) (fdivWord (BitVec.ofNat 32 j.val) 64#32)
    = BitVec.ofNat 32 (j.val % 64 * 4 + j.val / 64) := by decide +kernel

theorem eq_word {a b : Nat} (ha : a < 256) (hb : b < 256) :
    IntOp.cmpi .eq (BitVec.ofNat 32 a) (BitVec.ofNat 32 b) = if a = b then 1#1 else 0#1 := by
  have h : (BitVec.ofNat 32 a == BitVec.ofNat 32 b) = decide (a = b) := by
    rw [Bool.eq_iff_iff, beq_iff_eq, decide_eq_true_iff]
    constructor
    · intro h
      have := congrArg BitVec.toNat h
      simp only [BitVec.toNat_ofNat] at this
      omega
    · intro h; rw [h]
  show BitVec.ofBool (BitVec.ofNat 32 a == BitVec.ofNat 32 b) = _
  rw [h]
  by_cases hab : a = b <;> simp [hab]

/-- A truth word as a number. -/
theorem truth_number (p : Prop) [Decidable p] :
    ((((BitVec.setWidth 32 (if p then 1#1 else 0#1)).toInt : ℤ) : ℝ) : EReal) = if p then 1 else 0 := by
  by_cases h : p
  · rw [if_pos h, if_pos h, show (BitVec.setWidth 32 1#1).toInt = 1 by decide]; norm_num
  · rw [if_neg h, if_neg h, show (BitVec.setWidth 32 0#1).toInt = 0 by decide]; norm_num

/-! ## The permuted inner input factor -/

/-- The column of the inner factor that the kernel puts in column `j`. -/
def perm (j : Fin 256) : Fin 256 := ⟨j.val % 64 * 4 + j.val / 64, by omega⟩

theorem mask_apply (i j : Fin 256) : k0_pay4 (ix2 i j) = if i = perm j then 1#1 else 0#1 := by
  have h : k0_pay4 (ix2 i j) = IntOp.cmpi .eq (iota .tc S256x256 32 [0] iota_S256x256_d0_w32 (ix2 i j))
      (IntOp.addi (IntOp.muli (fmodWord (iota .tc S256x256 32 [1] iota_S256x256_d1_w32 (ix2 i j)) 64#32) 4#32) (fdivWord (iota .tc S256x256 32 [1] iota_S256x256_d1_w32 (ix2 i j)) 64#32)) := rfl
  rw [h, iota_single_apply, iota_single_apply]
  show IntOp.cmpi .eq (BitVec.ofNat 32 i.val)
      (IntOp.addi (IntOp.muli (fmodWord (BitVec.ofNat 32 j.val) 64#32) 4#32) (fdivWord (BitVec.ofNat 32 j.val) 64#32)) = _
  rw [perm_word, eq_word i.isLt (by omega)]
  simp only [Fin.ext_iff, perm]

theorem permuted_apply (x : FVec Ideal S256x256 .bf16) (d j : Fin 256) : k0_pay5 (F := Ideal) k0_pay4 x (ix2 d j) = x (ix2 d (perm j)) := by
  have h : ∀ i : Fin 256, (truncf .bf16 (sitofp (F := Ideal) .f32 (extui 32 k0_pay4 natLt_1_32)) bitsLt_bf16_f32 : FVec Ideal S256x256 .bf16) (ix2 i j) = if i = perm j then 1 else 0 := by
    intro i
    rw [← truth_number, ← mask_apply]
    rfl
  unfold k0_pay5
  generalize (truncf .bf16 (sitofp (F := Ideal) .f32 (extui 32 k0_pay4 natLt_1_32)) bitsLt_bf16_f32 : FVec Ideal S256x256 .bf16) = w at *
  pointwise
  simp only [h]
  exact sum_pick _ fun i => x (ix2 d i)

/-! ## The outer input factor times an identity -/

/-- One in row `r` at the block that `r` belongs to. -/
def block16 : FVec Ideal S256x16 .bf16 := fun j =>
  ((((BitVec.setWidth 32 (IntOp.cmpi .eq (fdivWord (iota .tc S256x16 32 [0] iota_S256x16_d0_w32 j) 16#32) (iota .tc S256x16 32 [1] iota_S256x16_d1_w32 j))).toInt : ℤ) : ℝ) : EReal)

theorem block16_apply (r : Fin 256) (a : Fin 16) : block16 (ix2 r a) = if (⟨r.val / 16, by omega⟩ : Fin 16) = a then 1 else 0 := by
  unfold block16
  rw [iota_single_apply, iota_single_apply]
  show ((((BitVec.setWidth 32 (IntOp.cmpi .eq (fdivWord (BitVec.ofNat 32 r.val) 16#32) (BitVec.ofNat 32 a.val))).toInt : ℤ) : ℝ) : EReal) = _
  rw [fdiv_16, eq_word (by omega) (by omega), truth_number]
  simp only [Fin.ext_iff]

theorem spread16_apply (v : FVec Ideal S16x16 .bf16) (r s : Fin 256) :
    k0_pay25 (F := Ideal) v (iota .tc S256x16 32 [0] iota_S256x16_d0_w32) 16#32 k0_pay24 (ix2 r s) = v (ix2 (⟨r.val / 16, by omega⟩ : Fin 16) (⟨s.val / 16, by omega⟩ : Fin 16)) := by
  have h : k0_pay25 (F := Ideal) v (iota .tc S256x16 32 [0] iota_S256x16_d0_w32) 16#32 k0_pay24
      = matmul dot_S256x16_S256x16_S256x256_1_1_0_0_n_n none (truncf .bf16 (matmul dot_S256x16_S16x16_S256x16_1_0_0_1_n_n none block16 v
        (constant S256x16 .f32 0x00000000#32)) bitsLt_bf16_f32) block16 (constant S256x256 .f32 0x00000000#32) := rfl
  rw [h]
  have hb := block16_apply
  generalize block16 = w at *
  pointwise
  simp only [hb, pick_sum, sum_pick]
  have e : ∀ c : Fin 16, (if (⟨s.val / 16, by omega⟩ : Fin 16) = c then (1 : EReal) else 0) = if c = (⟨s.val / 16, by omega⟩ : Fin 16) then 1 else 0 :=
    fun c => if_congr eq_comm rfl rfl
  simp only [e, sum_pick]

/-- The outer input factor, transposed, times an identity of sixteen. -/
def kronIn (v : FVec Ideal S16x16 .bf16) : FVec Ideal S256x256 .bf16 :=
  k0_pay29 (F := Ideal) (k0_pay25 (k0_pay23 v) (iota .tc S256x16 32 [0] iota_S256x16_d0_w32) 16#32 k0_pay24) k0_pay26 k0_pay27 k0_pay28

theorem kronIn_apply (v : FVec Ideal S16x16 .bf16) (r s : Fin 256) :
    kronIn v (ix2 r s) = if r.val % 16 = s.val % 16 then v (ix2 (⟨s.val / 16, by omega⟩ : Fin 16) (⟨r.val / 16, by omega⟩ : Fin 16)) else 0 := by
  have h : kronIn v (ix2 r s) = Scalar.select (IntOp.cmpi .eq (fmodWord (iota .tc S256x256 32 [0] iota_S256x256_d0_w32 (ix2 r s)) 16#32) (fmodWord (iota .tc S256x256 32 [1] iota_S256x256_d1_w32 (ix2 r s)) 16#32))
      (k0_pay25 (F := Ideal) (k0_pay23 v) (iota .tc S256x16 32 [0] iota_S256x16_d0_w32) 16#32 k0_pay24 (ix2 r s)) (Ideal.ofBits .f32 0x00000000#32) := rfl
  rw [h, iota_single_apply, iota_single_apply, spread16_apply]
  show Scalar.select (IntOp.cmpi .eq (fmodWord (BitVec.ofNat 32 r.val) 16#32) (fmodWord (BitVec.ofNat 32 s.val) 16#32)) _ _ = _
  rw [fmod_16, fmod_16, eq_word (by omega) (by omega)]
  have ht : ∀ a b : Fin 16, k0_pay23 (F := Ideal) v (ix2 a b) = v (ix2 b a) := by
    intro a b
    unfold k0_pay23
    pointwise
  rw [ht]
  by_cases hrs : r.val % 16 = s.val % 16
  · rw [if_pos hrs, if_pos hrs]; rfl
  · rw [if_neg hrs, if_neg hrs]
    show Ideal.ofBits .f32 0x00000000#32 = 0
    exact Ideal.ofBits_zero_f32

/-! ## The outer output factor times an identity -/

/-- One in row `r` at the block that `r` belongs to. -/
def block8 : FVec Ideal S224x28 .bf16 := fun j =>
  ((((BitVec.setWidth 32 (IntOp.cmpi .eq (fdivWord (iota .tc S224x28 32 [0] iota_S224x28_d0_w32 j) 8#32) (iota .tc S224x28 32 [1] iota_S224x28_d1_w32 j))).toInt : ℤ) : ℝ) : EReal)

theorem block8_apply (r : Fin 224) (a : Fin 28) : block8 (ix2 r a) = if (⟨r.val / 8, by omega⟩ : Fin 28) = a then 1 else 0 := by
  unfold block8
  rw [iota_single_apply, iota_single_apply]
  show ((((BitVec.setWidth 32 (IntOp.cmpi .eq (fdivWord (BitVec.ofNat 32 r.val) 8#32) (BitVec.ofNat 32 a.val))).toInt : ℤ) : ℝ) : EReal) = _
  rw [fdiv_8, eq_word (by omega) (by omega), truth_number]
  simp only [Fin.ext_iff]

theorem spread8_apply (v : FVec Ideal S28x28 .bf16) (r s : Fin 224) :
    k0_pay251 (F := Ideal) v (ix2 r s) = v (ix2 (⟨r.val / 8, by omega⟩ : Fin 28) (⟨s.val / 8, by omega⟩ : Fin 28)) := by
  have h : k0_pay251 (F := Ideal) v
      = matmul dot_S224x28_S224x28_S224x224_1_1_0_0_n_n none (truncf .bf16 (matmul (φ₂ := .bf16) dot_S224x28_S28x28_S224x28_1_0_0_1_n_n none block8 v
        (constant S224x28 .f32 0x00000000#32)) bitsLt_bf16_f32) block8 (constant S224x224 .f32 0x00000000#32) := rfl
  rw [h]
  have hb := block8_apply
  generalize block8 = w at *
  pointwise
  simp only [hb, pick_sum, sum_pick]
  have e : ∀ c : Fin 28, (if (⟨s.val / 8, by omega⟩ : Fin 28) = c then (1 : EReal) else 0) = if c = (⟨s.val / 8, by omega⟩ : Fin 28) then 1 else 0 :=
    fun c => if_congr eq_comm rfl rfl
  simp only [e, sum_pick]

/-- The outer output factor times an identity of eight. -/
def kronOut (v : FVec Ideal S28x28 .bf16) : FVec Ideal S224x224 .bf16 :=
  k0_pay255 (F := Ideal) (k0_pay251 v) 8#32 k0_pay252 k0_pay253 k0_pay254 0#32

theorem kronOut_apply (v : FVec Ideal S28x28 .bf16) (r s : Fin 224) :
    kronOut v (ix2 r s) = if r.val % 8 = s.val % 8 then v (ix2 (⟨r.val / 8, by omega⟩ : Fin 28) (⟨s.val / 8, by omega⟩ : Fin 28)) else 0 := by
  have h : kronOut v (ix2 r s) = Scalar.select (IntOp.cmpi .eq (fmodWord (iota .tc S224x224 32 [0] iota_S224x224_d0_w32 (ix2 r s)) 8#32) (fmodWord (iota .tc S224x224 32 [1] iota_S224x224_d1_w32 (ix2 r s)) 8#32))
      (k0_pay251 (F := Ideal) v (ix2 r s)) (Ideal.ofBits .f32 0x00000000#32) := rfl
  rw [h, iota_single_apply, iota_single_apply, spread8_apply]
  show Scalar.select (IntOp.cmpi .eq (fmodWord (BitVec.ofNat 32 r.val) 8#32) (fmodWord (BitVec.ofNat 32 s.val) 8#32)) _ _ = _
  rw [fmod_8, fmod_8, eq_word (by omega) (by omega)]
  by_cases hrs : r.val % 8 = s.val % 8
  · rw [if_pos hrs, if_pos hrs]; rfl
  · rw [if_neg hrs, if_neg hrs]
    show Ideal.ofBits .f32 0x00000000#32 = 0
    exact Ideal.ofBits_zero_f32

/-! ## Products with them -/

theorem sum_same_rest {A B N : Nat} (hN : A * B = N) (t : Fin B) (g h : Fin N → EReal) (hB : ∀ c : Fin A, ∀ u : Fin B, (c.val * B + u.val) % B = u.val) :
    ∑ s : Fin N, (if t.val = s.val % B then g s else 0) * h s
      = ∑ c : Fin A, g ⟨c.val * B + t.val, row_lt hN c t⟩ * h ⟨c.val * B + t.val, row_lt hN c t⟩ := by
  rw [sum_blocks hN]
  refine Finset.sum_congr rfl fun c _ => ?_
  simp only [hB]
  have e : ∀ u : Fin B, (if t.val = u.val then g ⟨c.val * B + u.val, row_lt hN c u⟩ else 0) * h ⟨c.val * B + u.val, row_lt hN c u⟩
      = (if t = u then 1 else 0) * (g ⟨c.val * B + u.val, row_lt hN c u⟩ * h ⟨c.val * B + u.val, row_lt hN c u⟩) := by
    intro u
    by_cases hu : t = u
    · subst hu; simp
    · rw [if_neg (fun h => hu (Fin.ext h)), if_neg hu, zero_mul, zero_mul]
  simp only [e, pick_sum]

end Cert.Body

end
-- ==== Proof.Body.RotIn.lean ====
/- The rotation of the input: what the first grid point leaves in its two scratch arrays. -/
module

public import proofs.«01_k».proof.Proof.Body.Kron

@[expose] public section

set_option maxRecDepth 16384

noncomputable section

namespace Cert.Body

open Idealize.ShloMosaic
open Cert.KernelIdeal Cert.KernelIdeal.Gen

/-! ## The inner factor, block by block -/

/-- One block of the input times the permuted inner factor. -/
def innerPay (v2 : FVec Ideal S256x256 .bf16) (x : FVec Ideal S128x256 .bf16) : FVec Ideal S1x128x256 .bf16 :=
  shapeCast S1x128x256 (truncf .bf16 (matmul dot_S128x256_S256x256_S128x256_1_0_0_1_n_n none (shapeCast S128x256 x shapeCasts_S128x256_S128x256)
    (k0_pay5 (F := Ideal) k0_pay4 v2) (constant S128x256 .f32 0x00000000#32)) bitsLt_bf16_f32) shapeCasts_S128x256_S1x128x256

/-- An element of a block of the input times the permuted inner factor. -/
def innerAt (v2 : FVec Ideal S256x256 .bf16) (x : FVec Ideal S128x256 .bf16) (t : Fin 128) (b : Fin 256) : EReal :=
  ∑ d : Fin 256, x (ix2 t d) * v2 (ix2 d (perm b))

theorem innerPay_apply (v2 : FVec Ideal S256x256 .bf16) (x : FVec Ideal S128x256 .bf16) (q : Fin 1) (t : Fin 128) (b : Fin 256) :
    innerPay v2 x (ix3 q t b) = innerAt v2 x t b := by
  unfold innerPay innerAt
  have h := fun d => permuted_apply v2 d b
  generalize k0_pay5 (F := Ideal) k0_pay4 v2 = w at *
  pointwise
  simp only [h]

/-- The pieces of the first scratch array, last first. -/
def innerList (v2 : FVec Ideal S256x256 .bf16) (xs : Fin 16 → FVec Ideal S128x256 .bf16) : List (View.Piece (Elt Ideal) S16x128x256 .bf16) :=
  List.ofFn fun k : Fin 16 => ⟨Rect.unit ![15 - k.val, 0, 0] ![1, 128, 256] (by
    intro a
    fin_cases a
    · show 15 - k.val + 1 ≤ 16; omega
    · show 0 + 128 ≤ 128; omega
    · show 0 + 256 ≤ 256; omega), innerPay v2 (xs ⟨15 - k.val, by omega⟩)⟩

theorem innerList_apply (v2 : FVec Ideal S256x256 .bf16) (xs : Fin 16 → FVec Ideal S128x256 .bf16) (c : Fin 16) (t : Fin 128) (b : Fin 256) :
    View.canon (innerList v2 xs) (ix3 c t b) = innerAt v2 (xs c) t b := by
  refine View.canon_ofFn_unit_eq_of_forall (S := S16x128x256) (fun k : Fin 16 => ![15 - k.val, 0, 0]) ![1, 128, 256] _ _ _ _ ?_ ?_
  · refine ⟨⟨15 - c.val, by omega⟩, fun a => ?_⟩
    fin_cases a
    · show 15 - (15 - c.val) ≤ c.val ∧ c.val < 15 - (15 - c.val) + 1; omega
    · show 0 ≤ t.val ∧ t.val < 0 + 128; omega
    · show 0 ≤ b.val ∧ b.val < 0 + 256; omega
  · intro k x hx
    obtain ⟨q, t', b', rfl⟩ : ∃ (q : Fin 1) (t' : Fin 128) (b' : Fin 256), x = ix3 q t' b' := ⟨x 0, x 1, x 2, by funext q; fin_cases q <;> rfl⟩
    have h0 := hx 0; have h1 := hx 1; have h2 := hx 2
    change c.val = 15 - k.val + q.val at h0
    change t.val = 0 + t'.val at h1
    change b.val = 0 + b'.val at h2
    refine (innerPay_apply _ _ _ _ _).trans ?_
    have e0 : (⟨15 - k.val, by omega⟩ : Fin 16) = c := Fin.ext (by show 15 - k.val = c.val; omega)
    have e1 : t' = t := Fin.ext (by omega)
    have e2 : b' = b := Fin.ext (by omega)
    rw [e0, e1, e2]

/-! ## The outer factor, sixteen tokens at a time -/

/-- Sixteen rows of each block, one below the other. -/
def stackIn (v2 : FVec Ideal S256x256 .bf16) (xs : Fin 16 → FVec Ideal S128x256 .bf16) {sig' : RefSig} {κ : Kind} {sp : Space}
    (v : View sig' κ sp S16x128x256 .bf16) (i : Fin 8) (c : Fin 16) : FVec Ideal S16x256 .bf16 :=
  shapeCast S16x256 (v.readCov (innerList v2 xs) (Rect.unit (s := S16x128x256) ![c.val, 16 * i.val, 0] S1x16x256.size (by
    intro a
    fin_cases a
    · show c.val + 1 ≤ 16; omega
    · show 16 * i.val + 16 ≤ 128; omega
    · show 0 + 256 ≤ 256; omega)).toLoadRect) shapeCasts_S1x16x256_S16x256

theorem stackIn_apply (v2 : FVec Ideal S256x256 .bf16) (xs : Fin 16 → FVec Ideal S128x256 .bf16) {sig' : RefSig} {κ : Kind} {sp : Space}
    (v : View sig' κ sp S16x128x256 .bf16) (i : Fin 8) (c : Fin 16) (u : Fin 16) (b : Fin 256) :
    stackIn v2 xs v i c (ix2 u b) = innerAt v2 (xs c) ⟨16 * i.val + u.val, by omega⟩ b := by
  unfold stackIn
  rw [View.readCov_eq_canon']
  have h : ∀ (w : FVec Ideal S1x16x256 .bf16), shapeCast S16x256 w shapeCasts_S1x16x256_S16x256 (ix2 u b) = w (ix3 0 u b) := by
    intro w
    pointwise
  refine (h _).trans ?_
  refine (congrArg (View.canon (innerList v2 xs)) ?_).trans (innerList_apply v2 xs c ⟨16 * i.val + u.val, by omega⟩ b)
  funext a
  refine Fin.ext ?_
  fin_cases a
  · show c.val + 1 * 0 = c.val; omega
  · show 16 * i.val + 1 * u.val = 16 * i.val + u.val; omega
  · show 0 + 1 * b.val = b.val; omega

/-- Sixteen rows of every block, one block below the other. -/
def stackAll (v2 : FVec Ideal S256x256 .bf16) (xs : Fin 16 → FVec Ideal S128x256 .bf16) {sig' : RefSig} {κ : Kind} {sp : Space}
    (v : View sig' κ sp S16x128x256 .bf16) (i : Fin 8) : FVec Ideal S256x256 .bf16 :=
  concatenate S256x256 0 ((List.ofFn fun c : Fin 16 => stackIn v2 xs v i c).map fun x => ⟨S16x256, x⟩)
      concatenates_S16x256_S16x256_S16x256_S16x256_S16x256_S16x256_S16x256_S16x256_S16x256_S16x256_S16x256_S16x256_S16x256_S16x256_S16x256_S16x256_S256x256_d0

theorem stackAll_apply (v2 : FVec Ideal S256x256 .bf16) (xs : Fin 16 → FVec Ideal S128x256 .bf16) {sig' : RefSig} {κ : Kind} {sp : Space}
    (v : View sig' κ sp S16x128x256 .bf16) (i : Fin 8) (c u : Fin 16) (b : Fin 256) :
    stackAll v2 xs v i (ix2 (⟨c.val * 16 + u.val, by omega⟩ : Fin 256) b) = innerAt v2 (xs c) ⟨16 * i.val + u.val, by omega⟩ b := by
  unfold stackAll
  refine (concatenate_rows (T := 256) (R := 16) (n := 256) (List.ofFn fun c : Fin 16 => stackIn v2 xs v i c) _ c.val (by simp) u _ b rfl).trans ?_
  rw [List.getElem_ofFn]
  exact stackIn_apply v2 xs v i c u b

/-- Sixteen tokens of the rotated input, one block below the other. -/
def outerBlock (v1 : FVec Ideal S16x16 .bf16) (v2 : FVec Ideal S256x256 .bf16) (xs : Fin 16 → FVec Ideal S128x256 .bf16) {sig' : RefSig} {κ : Kind} {sp : Space}
    (v : View sig' κ sp S16x128x256 .bf16) (i : Fin 8) : FVec Ideal S256x256 .bf16 :=
  truncf .bf16 (matmul dot_S256x256_S256x256_S256x256_1_0_0_1_n_n none (kronIn v1)
    (stackAll v2 xs v i)
    (constant S256x256 .f32 0x00000000#32)) bitsLt_bf16_f32

/-- An element of the rotated input. -/
def rotated (v1 : FVec Ideal S16x16 .bf16) (v2 : FVec Ideal S256x256 .bf16) (xs : Fin 16 → FVec Ideal S128x256 .bf16) (t : Fin 128) (a : Fin 16) (b : Fin 256) : EReal :=
  ∑ c : Fin 16, v1 (ix2 c a) * innerAt v2 (xs c) t b

theorem outerBlock_apply (v1 : FVec Ideal S16x16 .bf16) (v2 : FVec Ideal S256x256 .bf16) (xs : Fin 16 → FVec Ideal S128x256 .bf16) {sig' : RefSig} {κ : Kind} {sp : Space}
    (v : View sig' κ sp S16x128x256 .bf16) (i : Fin 8) (a u : Fin 16) (b : Fin 256) :
    outerBlock v1 v2 xs v i (ix2 (⟨16 * a.val + u.val, by omega⟩ : Fin 256) b) = rotated v1 v2 xs ⟨16 * i.val + u.val, by omega⟩ a b := by
  unfold outerBlock
  have hs := fun c u => stackAll_apply v2 xs v i c u b
  generalize stackAll v2 xs v i = w at *
  have hk := kronIn_apply v1
  generalize kronIn v1 = k at *
  pointwise
  simp only [hk]
  have e : ∀ s : Fin 256, (16 * a.val + u.val) % 16 = s.val % 16 ↔ u.val = s.val % 16 := fun s => by omega
  simp only [e]
  refine (sum_same_rest (A := 16) (B := 16) (N := 256) rfl u _ (fun s => w (ix2 s b)) (fun c u => by omega)).trans ?_
  unfold rotated
  refine Finset.sum_congr rfl fun c _ => ?_
  refine congrArg₂ (· * ·) (congrArg₂ (fun p q => v1 (ix2 p q)) (Fin.ext ?_) (Fin.ext ?_)) (hs c u)
  · show (c.val * 16 + u.val) / 16 = c.val; omega
  · show (16 * a.val + u.val) / 16 = a.val; omega

/-- The pieces of the second scratch array, last first. -/
def outerList (v1 : FVec Ideal S16x16 .bf16) (v2 : FVec Ideal S256x256 .bf16) (xs : Fin 16 → FVec Ideal S128x256 .bf16) {sig' : RefSig} {κ : Kind} {sp : Space}
    (v : View sig' κ sp S16x128x256 .bf16) : List (View.Piece (Elt Ideal) S128x4096 .bf16) :=
  List.ofFn fun k : Fin 128 => ⟨Rect.unit ![16 * (7 - k.val / 16), 256 * (15 - k.val % 16)] ![16, 256] (by
    intro a
    fin_cases a
    · show 16 * (7 - k.val / 16) + 16 ≤ 128; omega
    · show 256 * (15 - k.val % 16) + 256 ≤ 4096; omega),
    shapeCast S16x256 (extractStridedSlice S16x256 ![16 * (15 - k.val % 16), 0] (outerBlock v1 v2 xs v ⟨7 - k.val / 16, by omega⟩) (by
      refine ⟨rfl, fun a => ?_⟩
      fin_cases a
      · show 16 * (15 - k.val % 16) + 16 ≤ 256; omega
      · show 0 + 256 ≤ 256; omega)) shapeCasts_S16x256_S16x256⟩

/-- The rotated input. -/
def rotatedIn (v1 : FVec Ideal S16x16 .bf16) (v2 : FVec Ideal S256x256 .bf16) (xs : Fin 16 → FVec Ideal S128x256 .bf16) : FVec Ideal S128x4096 .bf16 :=
  fun j => rotated v1 v2 xs (j 0) ⟨(j 1).val / 256, by have : (j 1).val < 4096 := (j 1).isLt; omega⟩ ⟨(j 1).val % 256, by omega⟩

theorem outerList_apply (v1 : FVec Ideal S16x16 .bf16) (v2 : FVec Ideal S256x256 .bf16) (xs : Fin 16 → FVec Ideal S128x256 .bf16) {sig' : RefSig} {κ : Kind} {sp : Space}
    (v : View sig' κ sp S16x128x256 .bf16) (t : Fin 128) (j : Fin 4096) :
    View.canon (outerList v1 v2 xs v) (ix2 t j) = rotatedIn v1 v2 xs (ix2 t j) := by
  refine View.canon_ofFn_unit_eq_of_forall (S := S128x4096) (fun k : Fin 128 => ![16 * (7 - k.val / 16), 256 * (15 - k.val % 16)]) ![16, 256] _ _ _ _ ?_ ?_
  · refine ⟨⟨(7 - t.val / 16) * 16 + (15 - j.val / 256), by omega⟩, fun a => ?_⟩
    fin_cases a
    · show 16 * (7 - ((7 - t.val / 16) * 16 + (15 - j.val / 256)) / 16) ≤ t.val ∧ t.val < 16 * (7 - ((7 - t.val / 16) * 16 + (15 - j.val / 256)) / 16) + 16
      omega
    · show 256 * (15 - ((7 - t.val / 16) * 16 + (15 - j.val / 256)) % 16) ≤ j.val ∧ j.val < 256 * (15 - ((7 - t.val / 16) * 16 + (15 - j.val / 256)) % 16) + 256
      omega
  · intro k x hx
    obtain ⟨u, b, rfl⟩ : ∃ (u : Fin 16) (b : Fin 256), x = ix2 u b := ⟨x 0, x 1, by funext q; fin_cases q <;> rfl⟩
    have h0 := hx 0; have h1 := hx 1
    change t.val = 16 * (7 - k.val / 16) + u.val at h0
    change j.val = 256 * (15 - k.val % 16) + b.val at h1
    have hp : ∀ (w : FVec Ideal S256x256 .bf16) (h : S256x256.Slices ![16 * (15 - k.val % 16), 0] S16x256),
        shapeCast S16x256 (extractStridedSlice S16x256 ![16 * (15 - k.val % 16), 0] w h) shapeCasts_S16x256_S16x256 (ix2 u b)
          = w (ix2 (⟨16 * (15 - k.val % 16) + u.val, by omega⟩ : Fin 256) b) := by
      intro w h
      pointwise
    refine (hp _ _).trans ((outerBlock_apply v1 v2 xs v ⟨7 - k.val / 16, by omega⟩ ⟨15 - k.val % 16, by omega⟩ u b).trans ?_)
    unfold rotatedIn
    have e0 : (⟨16 * (7 - k.val / 16) + u.val, by omega⟩ : Fin 128) = t := Fin.ext (by show 16 * (7 - k.val / 16) + u.val = t.val; omega)
    have e1 : (⟨15 - k.val % 16, by omega⟩ : Fin 16) = ⟨j.val / 256, by omega⟩ := Fin.ext (by show 15 - k.val % 16 = j.val / 256; omega)
    have e2 : b = ⟨j.val % 256, by omega⟩ := Fin.ext (by show b.val = j.val % 256; omega)
    exact (congrArg₂ (fun p q => rotated v1 v2 xs p q b) e0 e1).trans (congrArg (fun q => rotated v1 v2 xs t (⟨j.val / 256, by omega⟩ : Fin 16) q) e2)

end Cert.Body

end
-- ==== Proof.Body.RotOut.lean ====
/- The rotation of the output: what the last grid point stores in the result. -/
module

public import proofs.«01_k».proof.Proof.Body.Kron

@[expose] public section

set_option maxRecDepth 16384

noncomputable section

namespace Cert.Body

open Idealize.ShloMosaic
open Cert.KernelIdeal Cert.KernelIdeal.Gen

/-- The outer output factor applied to eight tokens of the products. -/
def outBlock (u1 : FVec Ideal S28x28 .bf16) (r : FVec Ideal S1x224x512 .bf16) : FVec Ideal S224x512 .f32 :=
  matmul (φ₂ := .bf16) dot_S224x224_S224x512_S224x512_1_0_0_1_n_n none (kronOut u1) (shapeCast S224x512 r shapeCasts_S1x224x512_S224x512)
    (constant S224x512 .f32 0x00000000#32)

theorem outBlock_apply (u1 : FVec Ideal S28x28 .bf16) (r : FVec Ideal S1x224x512 .bf16) (a : Fin 28) (u : Fin 8) (b : Fin 512) :
    outBlock u1 r (ix2 (⟨8 * a.val + u.val, by omega⟩ : Fin 224) b)
      = ∑ c : Fin 28, u1 (ix2 a c) * r (ix3 (0 : Fin 1) (⟨c.val * 8 + u.val, by omega⟩ : Fin 224) b) := by
  unfold outBlock
  have hk := kronOut_apply u1
  generalize kronOut u1 = k at *
  pointwise
  simp only [hk]
  have e : ∀ s : Fin 224, (8 * a.val + u.val) % 8 = s.val % 8 ↔ u.val = s.val % 8 := fun s => by omega
  simp only [e]
  refine (sum_same_rest (A := 28) (B := 8) (N := 224) rfl u _ (fun s => r (ix3 (0 : Fin 1) s b)) (fun c u => by omega)).trans ?_
  refine Finset.sum_congr rfl fun c _ => ?_
  refine congrArg (· * r (ix3 (0 : Fin 1) (⟨c.val * 8 + u.val, by omega⟩ : Fin 224) b)) (congrArg₂ (fun p q => u1 (ix2 p q)) (Fin.ext ?_) (Fin.ext ?_))
  · show (8 * a.val + u.val) / 8 = a.val; omega
  · show (c.val * 8 + u.val) / 8 = c.val; omega

/-- What one piece of the result holds: eight tokens of one block, then eight of the next. -/
def outPay (o : Nat) (h : S224x512.Slices ![o, 0] S8x512) (v0 v1 : FVec Ideal S224x512 .f32) : FVec Ideal S16x512 .bf16 :=
  truncf .bf16 (concatenate S16x512 0 [⟨S8x512, extractStridedSlice S8x512 ![o, 0] v0 h⟩,
    ⟨S8x512, extractStridedSlice S8x512 ![o, 0] v1 h⟩] concatenates_S8x512_S8x512_S16x512_d0) bitsLt_bf16_f32

theorem outPay_apply (o : Nat) (ho : o + 8 ≤ 224) (h : S224x512.Slices ![o, 0] S8x512) (v0 v1 : FVec Ideal S224x512 .f32) (u : Fin 16) (b : Fin 512) :
    outPay o h v0 v1 (ix2 u b) = (if u.val / 8 = 0 then v0 else v1) (ix2 (⟨o + u.val % 8, by omega⟩ : Fin 224) b) := by
  have hu := u.isLt
  refine (concatenate_rows (T := 16) (R := 8) (n := 512) [extractStridedSlice S8x512 ![o, 0] v0 h, extractStridedSlice S8x512 ![o, 0] v1 h]
    concatenates_S8x512_S8x512_S16x512_d0 (u.val / 8) (by simp; omega) ⟨u.val % 8, by omega⟩ u b (by show u.val = u.val / 8 * 8 + u.val % 8; omega)).trans ?_
  have key : ∀ (k : ℕ) (hk : k < 2) (r : Fin 8), [extractStridedSlice S8x512 ![o, 0] v0 h, extractStridedSlice S8x512 ![o, 0] v1 h][k] (ix2 r b)
      = (if k = 0 then v0 else v1) (ix2 (⟨o + r.val, by omega⟩ : Fin 224) b) := by
    intro k hk r
    interval_cases k
    · show extractStridedSlice S8x512 ![o, 0] v0 h (ix2 r b) = v0 _
      pointwise
    · show extractStridedSlice S8x512 ![o, 0] v1 h (ix2 r b) = v1 _
      pointwise
  exact key _ (by omega) _

theorem outInb (k : Fin 224) (a : Fin 2) : (![16 * (7 - k.val / 28), 512 * (27 - k.val % 28)] : Fin 2 → Nat) a + (![16, 512] : Fin 2 → Nat) a ≤ S128x14336.size a := by
  fin_cases a
  · show 16 * (7 - k.val / 28) + 16 ≤ 128; omega
  · show 512 * (27 - k.val % 28) + 512 ≤ 14336; omega

/-- The pieces of the result, last first. -/
def outList (u1 : FVec Ideal S28x28 .bf16) (rs : Fin 16 → FVec Ideal S1x224x512 .bf16) : List (View.Piece (Elt Ideal) S128x14336 .bf16) :=
  List.ofFn fun k : Fin 224 => ⟨Rect.unit ![16 * (7 - k.val / 28), 512 * (27 - k.val % 28)] ![16, 512] (outInb k),
    outPay (8 * (27 - k.val % 28)) (by
      refine ⟨rfl, fun a => ?_⟩
      fin_cases a
      · show 8 * (27 - k.val % 28) + 8 ≤ 224; omega
      · show 0 + 512 ≤ 512; omega) (outBlock u1 (rs ⟨2 * (7 - k.val / 28), by omega⟩)) (outBlock u1 (rs ⟨2 * (7 - k.val / 28) + 1, by omega⟩))⟩

/-- The result. -/
def rotatedOut (u1 : FVec Ideal S28x28 .bf16) (rs : Fin 16 → FVec Ideal S1x224x512 .bf16) (t : Fin 128) (a : Fin 28) (b : Fin 512) : EReal :=
  ∑ c : Fin 28, u1 (ix2 a c) * rs ⟨t.val / 8, by omega⟩ (ix3 (0 : Fin 1) (⟨c.val * 8 + t.val % 8, by omega⟩ : Fin 224) b)

theorem outList_cover (u1 : FVec Ideal S28x28 .bf16) (rs : Fin 16 → FVec Ideal S1x224x512 .bf16) (t : Fin 128) (a : Fin 28) (b : Fin 512) :
    ∃ p ∈ outList u1 rs, (ix2 t (⟨512 * a.val + b.val, by omega⟩ : Fin 14336) : S128x14336.Idx) ∈ p.1.set := by
  have key : ∀ k : Fin 224, k.val = (7 - t.val / 16) * 28 + (27 - a.val) →
      (ix2 t (⟨512 * a.val + b.val, by omega⟩ : Fin 14336) : S128x14336.Idx) ∈ (Rect.unit (s := S128x14336) ![16 * (7 - k.val / 28), 512 * (27 - k.val % 28)] ![16, 512] (outInb k)).set := by
    intro k hk
    refine Rect.mem_set_unit.mpr fun q => ?_
    fin_cases q
    · show 16 * (7 - k.val / 28) ≤ t.val ∧ t.val < 16 * (7 - k.val / 28) + 16
      omega
    · show 512 * (27 - k.val % 28) ≤ 512 * a.val + b.val ∧ 512 * a.val + b.val < 512 * (27 - k.val % 28) + 512
      omega
  exact ⟨_, List.mem_ofFn.mpr ⟨⟨(7 - t.val / 16) * 28 + (27 - a.val), by omega⟩, rfl⟩, key _ rfl⟩

theorem outList_allAt (u1 : FVec Ideal S28x28 .bf16) (rs : Fin 16 → FVec Ideal S1x224x512 .bf16) (t : Fin 128) (a : Fin 28) (b : Fin 512) :
    View.AllAt (outList u1 rs) (ix2 t (⟨512 * a.val + b.val, by omega⟩ : Fin 14336)) (rotatedOut u1 rs t a b) := by
  intro p hp x hx
  obtain ⟨k, rfl⟩ := List.mem_ofFn.mp hp
  obtain ⟨u, b', rfl⟩ : ∃ (u : Fin 16) (b' : Fin 512), x = ix2 u b' := ⟨x 0, x 1, by funext q; fin_cases q <;> rfl⟩
  have h0 := congrArg Fin.val (congrFun hx 0); have h1 := congrArg Fin.val (congrFun hx 1)
  change 16 * (7 - k.val / 28) + 1 * u.val = t.val at h0
  change 512 * (27 - k.val % 28) + 1 * b'.val = 512 * a.val + b.val at h1
  refine (outPay_apply _ (by omega) _ _ _ u b').trans ?_
  have eb : b' = b := Fin.ext (by omega)
  have ea : 8 * (27 - k.val % 28) = 8 * a.val := by omega
  have hb : ∀ (v : FVec Ideal S224x512 .f32), v (ix2 (⟨8 * (27 - k.val % 28) + u.val % 8, by omega⟩ : Fin 224) b') = v (ix2 (⟨8 * a.val + u.val % 8, by omega⟩ : Fin 224) b) := by
    intro v
    exact congrArg₂ (fun q r => v (ix2 q r)) (Fin.ext (by show 8 * (27 - k.val % 28) + u.val % 8 = 8 * a.val + u.val % 8; omega)) eb
  have hv : (if u.val / 8 = 0 then outBlock u1 (rs ⟨2 * (7 - k.val / 28), by omega⟩) else outBlock u1 (rs ⟨2 * (7 - k.val / 28) + 1, by omega⟩))
      = outBlock u1 (rs ⟨t.val / 8, by omega⟩) := by
    split
    · exact congrArg (fun q => outBlock u1 (rs q)) (Fin.ext (by show 2 * (7 - k.val / 28) = t.val / 8; omega))
    · exact congrArg (fun q => outBlock u1 (rs q)) (Fin.ext (by show 2 * (7 - k.val / 28) + 1 = t.val / 8; omega))
  rw [hv]
  refine (hb _).trans ((outBlock_apply u1 _ a ⟨u.val % 8, by omega⟩ b).trans ?_)
  unfold rotatedOut
  refine Finset.sum_congr rfl fun c _ => ?_
  exact congrArg (fun q => u1 (ix2 a c) * rs ⟨t.val / 8, by omega⟩ (ix3 (0 : Fin 1) q b)) (Fin.ext (by show c.val * 8 + u.val % 8 = c.val * 8 + t.val % 8; omega))

end Cert.Body

end
-- ==== Proof.Body.Common.lean ====
/- The kernel body between the runs: its branch conditions in closed form, the memrefs it is called with at a point, and the
   region invariant with its three scratch arrays spelled out. -/
module

public import proofs.«01_k».proof.Proof.Gen.KernelIdeal.Frame
public import proofs.«01_k».proof.Proof.Gen.KernelIdeal.Skeleton
public import proofs.«01_k».proof.Proof.Gen.KernelIdeal.Points

@[expose] public section

-- membership in rectangles of the kernel's own extents recurses once per coordinate of the long axes
set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x28 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x14336 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x128x256 .bf16 := Memref.whole cc0_scratch0
abbrev scM0_1 : Memref sig .tc .vmem S128x4096 .bf16 := Memref.whole cc0_scratch1
abbrev scM0_2 : Memref sig .tc .vmem S16x224x512 .bf16 := Memref.whole cc0_scratch2
/-- The scratch `arg10` the kernel carries between points, as a view: what it holds is stated through it. -/
abbrev VS0_1 : View sig .tc .vmem S128x4096 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Body

end
-- ==== Proof.Body.Plain.lean ====
/- What the kernel computes, as functions of the windows' blocks: the loads stated without the buffers they read, the rows of
   products the grid points store one slice after the other, and the result the last point leaves. -/
module

public import proofs.«01_k».proof.Proof.Body.Loads
public import proofs.«01_k».proof.Proof.Body.Slices
public import proofs.«01_k».proof.Proof.Body.RotIn
public import proofs.«01_k».proof.Proof.Body.RotOut
public import proofs.«01_k».proof.Proof.Body.Common

@[expose] public section

set_option maxRecDepth 16384

noncomputable section

namespace Cert.Body

open Cert.KernelIdeal Cert.KernelIdeal.Gen
open Idealize.ShloMosaic Idealize.ShloMosaic.TcCoe

/-- Block `c` of the input. -/
def plainTokens (x : Vec Ideal S128x4096 .bf16) (c : Fin 16) : Vec Ideal S128x256 .bf16 :=
  fun j => x (ix2 (j 0) (⟨256 * c.val + (j 1).val, by have : (j 1).val < 256 := (j 1).isLt; omega⟩ : Fin 4096))

/-- Chunk `a` of one half of a block of codes. -/
def plainCodes (x : Vec Ideal S1024x1024 .i8) (h : Fin 2) (a : Fin 16) : Vec Ideal S64x512 .i8 :=
  fun j => x (ix2 (⟨64 * a.val + (j 0).val, by have : (j 0).val < 64 := (j 0).isLt; omega⟩ : Fin 1024)
    (⟨512 * h.val + (j 1).val, by have : (j 1).val < 512 := (j 1).isLt; omega⟩ : Fin 1024))

/-- One half of a block of scales. -/
def plainScale (x : Vec Ideal S1x1024 .f32) (h : Fin 2) : Vec Ideal S1x512 .f32 :=
  fun j => x (ix2 (0 : Fin 1) (⟨512 * h.val + (j 1).val, by have : (j 1).val < 512 := (j 1).isLt; omega⟩ : Fin 1024))

/-- One half of a grid point's products. -/
def plainHalf (z : Vec Ideal S128x4096 .bf16) (x3 : Vec Ideal S1024x1024 .i8) (x4 : Vec Ideal S1x1024 .f32) (x6 : Vec Ideal S512x512 .bf16) (h : Fin 2) :
    FVec Ideal S128x512 .f32 :=
  half z (plainCodes x3 h) (plainScale x4 h) x6

theorem tokenLoad_eq {arg1 : Memref sig .tc .vmem S128x4096 .bf16} (harg1 : arg1.IsWhole) (x0 : Vec Ideal S128x4096 .bf16) :
    tokenLoad harg1 x0 = plainTokens x0 := by
  funext c j
  obtain ⟨a, b, rfl⟩ : ∃ (a : Fin 128) (b : Fin 256), j = ix2 a b := ⟨j 0, j 1, by funext q; fin_cases q <;> rfl⟩
  exact tokenLoad_apply harg1 x0 c a b

theorem halfOf_eq {arg4 : Memref sig .tc .vmem S1024x1024 .i8} (harg4 : arg4.IsWhole) {arg5 : Memref sig .tc .vmem S1x1024 .f32} (harg5 : arg5.IsWhole)
    {arg7 : Memref sig .tc .vmem S512x512 .bf16} (harg7 : arg7.IsWhole) (z : Vec Ideal S128x4096 .bf16) (x3 : Vec Ideal S1024x1024 .i8)
    (x4 : Vec Ideal S1x1024 .f32) (x6 : Vec Ideal S512x512 .bf16) (h : Fin 2) : halfOf harg4 harg5 harg7 z x3 x4 x6 h = plainHalf z x3 x4 x6 h := by
  have e3 : codeLoad harg4 x3 h = plainCodes x3 h := by
    funext a j
    obtain ⟨r, l, rfl⟩ : ∃ (r : Fin 64) (l : Fin 512), j = ix2 r l := ⟨j 0, j 1, by funext q; fin_cases q <;> rfl⟩
    exact codeLoad_apply harg4 x3 h a r l
  have e4 : scaleLoad harg5 x4 h = plainScale x4 h := by
    funext j
    obtain ⟨r, l, rfl⟩ : ∃ (r : Fin 1) (l : Fin 512), j = ix2 r l := ⟨j 0, j 1, by funext q; fin_cases q <;> rfl⟩
    exact scaleLoad_apply harg5 x4 h r l
  unfold halfOf plainHalf
  rw [e3, e4, factorLoad_eq]

theorem outerInb (k : Fin 128) (a : Fin 2) : (![16 * (7 - k.val / 16), 256 * (15 - k.val % 16)] : Fin 2 → Nat) a + (![16, 256] : Fin 2 → Nat) a ≤ S128x4096.size a := by
  fin_cases a
  · show 16 * (7 - k.val / 16) + 16 ≤ 128; omega
  · show 256 * (15 - k.val % 16) + 256 ≤ 4096; omega

/-- The pieces of the rotated input cover it. -/
theorem outerList_cover (v1 : FVec Ideal S16x16 .bf16) (v2 : FVec Ideal S256x256 .bf16) (xs : Fin 16 → FVec Ideal S128x256 .bf16) {sig' : RefSig} {κ : Kind} {sp : Space}
    (v : View sig' κ sp S16x128x256 .bf16) (t : Fin 128) (j : Fin 4096) :
    ∃ p ∈ outerList v1 v2 xs v, (ix2 t j : S128x4096.Idx) ∈ p.1.set := by
  have key : ∀ k : Fin 128, k.val = (7 - t.val / 16) * 16 + (15 - j.val / 256) →
      (ix2 t j : S128x4096.Idx) ∈ (Rect.unit (s := S128x4096) ![16 * (7 - k.val / 16), 256 * (15 - k.val % 16)] ![16, 256] (outerInb k)).set := by
    intro k hk
    refine Rect.mem_set_unit.mpr fun q => ?_
    fin_cases q
    · show 16 * (7 - k.val / 16) ≤ t.val ∧ t.val < 16 * (7 - k.val / 16) + 16
      omega
    · show 256 * (15 - k.val % 16) ≤ j.val ∧ j.val < 256 * (15 - k.val % 16) + 256
      omega
  exact ⟨_, List.mem_ofFn.mpr ⟨⟨(7 - t.val / 16) * 16 + (15 - j.val / 256), by omega⟩, rfl⟩, key _ rfl⟩

/-- Reading the rotated input back after its pieces are stored. -/
theorem read_outer (v1 : FVec Ideal S16x16 .bf16) (v2 : FVec Ideal S256x256 .bf16) (xs : Fin 16 → FVec Ideal S128x256 .bf16) {sig' : RefSig} {κ : Kind} {sp : Space}
    (v : View sig' κ sp S16x128x256 .bf16) {sig₂ : RefSig} {κ₂ : Kind} {sp₂ : Space} (w : View sig₂ κ₂ sp₂ S128x4096 .bf16) (f : w.ty.Contents (Elt Ideal)) :
    w.read (Elt Ideal) (w.writes (Elt Ideal) f (outerList v1 v2 xs v)) = rotatedIn v1 v2 xs := by
  funext y
  obtain ⟨t, j, rfl⟩ : ∃ (t : Fin 128) (j : Fin 4096), y = ix2 t j := ⟨y 0, y 1, by funext q; fin_cases q <;> rfl⟩
  exact (View.read_writes_apply_eq_canon w f _ _ (outerList_cover v1 v2 xs v t j)).trans (outerList_apply v1 v2 xs v t j)

section
variable (m : (ℓ : Loc nD τ sig) → Buf (Elt Ideal) ℓ)

/-- The rotated input. -/
def Zval (c : Dev nD) : Vec Ideal S128x4096 .bf16 := rotatedIn (iblk m c 1 t0_0) (iblk m c 2 t0_0) (plainTokens (iblk m c 0 t0_0))

/-- One half of the products of grid point `t`. -/
def halfAt (c : Dev nD) (t : Fin cfg0.N) (h : Fin 2) : FVec Ideal S128x512 .f32 := plainHalf (Zval m c) (iblk m c 3 t) (iblk m c 4 t) (iblk m c 6 t) h

theorem point_lt (y : S16x224x512.Idx) : (y 1).val / 16 < cfg0.N := by
  have h : (y 1).val < 224 := (y 1).isLt
  have hN : cfg0.N = 14 := N_0
  omega

/-- The products, as they stand in the third scratch array once every point has stored its slice. -/
def rowsAt (c : Dev nD) : S16x224x512.Idx → EReal := fun y =>
  pick (halfAt m c ⟨(y 1).val / 16, point_lt y⟩ 0) (halfAt m c ⟨(y 1).val / 16, point_lt y⟩ 1) (y 0) ((y 1).val % 16) (y 2)

/-- The contents hold the products of the first `n` points. -/
def Good (c : Dev nD) (n : ℕ) (X : Vec Ideal S16x224x512 .bf16) : Prop := ∀ y : S16x224x512.Idx, (y 1).val < 16 * n → X y = rowsAt m c y

theorem good_zero (c : Dev nD) (X : Vec Ideal S16x224x512 .bf16) : Good m c 0 X := fun y h => absurd h (by omega)

/-- One point's slice stored: the products of one more point. -/
theorem good_step (c : Dev nD) (t : Fin cfg0.N) (X : Vec Ideal S16x224x512 .bf16) (hX : Good m c t.val X) {arg11 : Memref sig .tc .vmem S16x224x512 .bf16} (harg11 : arg11.IsWhole) :
    Good m c (t.val + 1) (arg11.view.read (Elt Ideal) (arg11.view.writes (Elt Ideal) (harg11.unread X) (sliceList (grid0.coords t) (halfAt m c t 0) (halfAt m c t 1)))) := by
  intro y hy
  have ht : t.val < 14 := Nat.lt_of_lt_of_eq t.isLt N_0
  have e0 : (grid0.coords t 0).val = t.val := by
    have : (grid0.coords t 0).val = t.val / 1 % 14 := Pipeline.Grid.coords_val t 0 (by decide) rfl
    omega
  rw [read_slice, e0]
  split
  · rename_i h
    have e : (⟨(y 1).val / 16, point_lt y⟩ : Fin cfg0.N) = t := Fin.ext (by show (y 1).val / 16 = t.val; omega)
    unfold rowsAt
    rw [e, show (y 1).val - 16 * t.val = (y 1).val % 16 by omega]
  · rename_i h
    rw [harg11.read_unread]
    exact hX y (by omega)

/-- The result the last point stores. -/
def Yval (c : Dev nD) : Vec Ideal S128x14336 .bf16 := fun j =>
  rotatedOut (iblk m c 5 t0_13) (fun k i => rowsAt m c (ix3 k (i 1) (i 2))) (j 0) ⟨(j 1).val / 512, by have : (j 1).val < 14336 := (j 1).isLt; omega⟩
    ⟨(j 1).val % 512, by omega⟩

theorem read_out (c : Dev nD) (arg11 : Memref sig .tc .vmem S16x224x512 .bf16) (g : arg11.view.ty.Contents (Elt Ideal)) (hg : Good m c 14 (arg11.view.read (Elt Ideal) g))
    {sig₂ : RefSig} {κ₂ : Kind} {sp₂ : Space} (w : View sig₂ κ₂ sp₂ S128x14336 .bf16) (f : w.ty.Contents (Elt Ideal)) :
    w.read (Elt Ideal) (w.writes (Elt Ideal) f (outList (iblk m c 5 t0_13) (productLoad arg11 g))) = Yval m c := by
  funext y
  obtain ⟨t, j, rfl⟩ : ∃ (t : Fin 128) (j : Fin 14336), y = ix2 t j := ⟨y 0, y 1, by funext q; fin_cases q <;> rfl⟩
  obtain ⟨a, b, rfl⟩ : ∃ (a : Fin 28) (b : Fin 512), j = ⟨512 * a.val + b.val, by omega⟩ :=
    ⟨⟨j.val / 512, by omega⟩, ⟨j.val % 512, by omega⟩, Fin.ext (by show j.val = 512 * (j.val / 512) + j.val % 512; omega)⟩
  refine (read_writes_of_allAt w f _ _ _ (outList_cover _ _ t a b) (outList_allAt _ _ t a b)).trans ?_
  have ea : (⟨(512 * a.val + b.val) / 512, by omega⟩ : Fin 28) = a := Fin.ext (by show (512 * a.val + b.val) / 512 = a.val; omega)
  have eb : (⟨(512 * a.val + b.val) % 512, by omega⟩ : Fin 512) = b := Fin.ext (by show (512 * a.val + b.val) % 512 = b.val; omega)
  show _ = rotatedOut (iblk m c 5 t0_13) (fun k i => rowsAt m c (ix3 k (i 1) (i 2))) t ⟨(512 * a.val + b.val) / 512, by omega⟩ ⟨(512 * a.val + b.val) % 512, by omega⟩
  rw [ea, eb]
  unfold rotatedOut
  refine Finset.sum_congr rfl fun k _ => congrArg₂ (· * ·) rfl ?_
  rw [productLoad_apply]
  exact hg _ (by show k.val * 8 + t.val % 8 < 16 * 14; omega)

end

end Cert.Body

end
-- ==== Proof.Body.Data.lean ====
/- What the scratch arrays hold between grid points, and the pipeline's proof data over it. -/
module

public import proofs.«01_k».proof.Proof.Body.Plain
public import Idealize.ShloMosaic.Lib.Pipeline.TableIdle

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- After `n` points: the second scratch array holds the rotated input, the third, until the last point has read it, the products of
    the points so far. -/
def PhiAfter (c : Dev nD) (n : ℕ) : sProp 𝕄 :=
  iprop(iprop((∃ d, owns (c : Thread nD τ) scM0_0 fullShare d) ∗ owns (c : Thread nD τ) scM0_1 fullShare (Zval m c) ∗ (∃ X, ⌜n < 14 → Good m c n X⌝ ∗ owns (c : Thread nD τ) scM0_2 fullShare X)) ∗ (∃ r, prngReg c r))

/-- The invariant: before the first point every scratch array at anything, afterwards `PhiAfter`. -/
def PhiS (c : Dev nD) : ℕ → sProp 𝕄
  | 0 => Pipeline.ΦA spec0 c
  | n + 1 => PhiAfter m c (n + 1)

theorem PhiS_zero (c : Dev nD) (n : ℕ) (hz : n = 0) : PhiS m c n = Pipeline.ΦA spec0 c := by
  subst hz; rfl

theorem PhiS_pos (c : Dev nD) (n : ℕ) (hz : n ≠ 0) : PhiS m c n = PhiAfter m c n := by
  cases n with
  | zero => exact absurd rfl hz
  | succ n => rfl

/-- The proof data of the pipeline: the arrays as the region finds them; after the body at a point each input's buffer at its
    block and the result's, at the one point that stores it, at the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Yval m c
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = Yval m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The result's buffer is idle at every point but the last. -/
theorem idle0_7 (t : Fin cfg0.N) (h : ¬t.val % 14 = 13) : cfg0.idle 7 (grid0.coords t) = true := by
  show (!(k0_cond2 (grid0.coords t) == 1#1)) = true
  have h' : ¬k0_cond2 (grid0.coords t) = 1#1 := fun e => h ((hcond0_1 t).mp e)
  rw [beq_eq_false_iff_ne.mpr h']; rfl
theorem live0_7 (t : Fin cfg0.N) (h : t.val % 14 = 13) : cfg0.idle 7 (grid0.coords t) = false := by
  show (!(k0_cond2 (grid0.coords t) == 1#1)) = false
  have h' : k0_cond2 (grid0.coords t) = 1#1 := (hcond0_1 t).mpr h
  rw [h']; rfl
theorem unflushed0_7 (t : Fin cfg0.N) (h : ¬t.val % 14 = 13) : (cfg0.win 7).flush t = false :=
  Bool.eq_false_iff.mpr fun e => h ((flush0_7 t).mp e)

/-- So the body finds anything in it. -/
theorem before0_7 (c : Dev nD) (t : Fin cfg0.N) (d) : (dats m 0 c).before 7 t d = d := by
  have ht : t.val < 14 := Nat.lt_of_lt_of_eq t.isLt N_0
  rw [(dats m 0 c).before_idle_run 7 (fun t => (cfg0.win 7).fetch_out rfl t) d t.val t le_rfl
    (fun j h1 h2 => ⟨idle0_7 j (by omega), unflushed0_7 j (by omega)⟩)]
  exact (dats m 0 c).before_out_reset 7 rfl _ (.inl (by simp)) d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) (h : t.val % 14 = 13) : (dats m 0 c).leavesExact 7 t = owns (c : Thread nD τ) (ms0_7 t) fullShare (Yval m c) := by
  unfold Dat.leavesExact; rw [live0_7 t h, after0_7]
theorem leaves0_7_idle (c : Dev nD) (t : Fin cfg0.N) (h : ¬t.val % 14 = 13) : (dats m 0 c).leavesExact 7 t = iprop(∃ d, owns (c : Thread nD τ) (ms0_7 t) fullShare d) := by
  rw [(dats m 0 c).leavesExact_idle 7 t (idle0_7 t h) (unflushed0_7 t h)]
  simp only [before0_7]; rfl

end Cert.Body

end
-- ==== Proof.Body.RunB.lean ====
/- One whole run of the kernel body: at a middle grid point. -/
module

public import proofs.«01_k».proof.Proof.Body.Common

@[expose] public section

-- membership in rectangles of the kernel's own extents recurses once per coordinate of the long axes
set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The kernel body run at a middle grid point. The witnesses are the pieces its stores leave, last first: of the slice it writes of `arg11`. On whole memrefs, the inputs at their contents, the body runs to the continuation holding the inputs unchanged. -/
noncomputable def runB (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : ¬cond0_0 i) (hc1 : ¬cond0_1 i)
    (x0 : Vec F S128x4096 .bf16) (x1 : Vec F S16x16 .bf16) (x2 : Vec F S256x256 .bf16) (x3 : Vec F S1024x1024 .i8) (x4 : Vec F S1x1024 .f32) (x5 : Vec F S28x28 .bf16) (x6 : Vec F S512x512 .bf16) (xs1 : Vec F S128x4096 .bf16) (xs2 : Vec F S16x224x512 .bf16) :
    { LS2 : List (View.Piece (Elt F) S16x224x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_quip_int2 i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_quip_int2_eq_skeleton]; unfold cc0_quip_int2_skel
    simp only [k0_part97_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs2; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    iexact HS2

end Cert.Body

end
-- ==== Proof.Body.RunA.lean ====
/- One whole run of the kernel body: at the first grid point. -/
module

public import proofs.«01_k».proof.Proof.Body.RunB

@[expose] public section

-- membership in rectangles of the kernel's own extents recurses once per coordinate of the long axes
set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3412000 in
/-- The kernel body run at the first grid point. The witnesses are the pieces its stores leave, last first: of the rotated activations `arg10` and of the slice it writes of `arg11`. On whole memrefs, the inputs at their contents, the body runs to the continuation holding the inputs unchanged. -/
noncomputable def runA (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 i) (hc1 : ¬cond0_1 i)
    (x0 : Vec F S128x4096 .bf16) (x1 : Vec F S16x16 .bf16) (x2 : Vec F S256x256 .bf16) (x3 : Vec F S1024x1024 .i8) (x4 : Vec F S1x1024 .f32) (x5 : Vec F S28x28 .bf16) (x6 : Vec F S512x512 .bf16) (xs2 : Vec F S16x224x512 .bf16) :
    Σ' (LS1 : List (View.Piece (Elt F) S128x4096 .bf16)) (LT0 : List (View.Piece (Elt F) S16x128x256 .bf16)), { LS2 : List (View.Piece (Elt F) S16x224x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_quip_int2 i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_quip_int2_eq_skeleton]; unfold cc0_quip_int2_skel
    simp only [k0_part97_eq_skeleton, k0_part67_eq_skeleton, k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]; · iexists _; iexact HS0
    isplitl [HS1]; · iexists _; iexact HS1
    iexact HS2

end Cert.Body

end
-- ==== Proof.Body.ValA.lean ====
/- What the first grid point leaves behind. -/
module

public import proofs.«01_k».proof.Proof.Body.RunA
public import proofs.«01_k».proof.Proof.Body.Loads
public import proofs.«01_k».proof.Proof.Body.RotIn
import all proofs.«01_k».proof.Proof.Body.RunA

@[expose] public section

set_option maxRecDepth 16384

noncomputable section

namespace Cert.Body

open Cert.KernelIdeal Cert.KernelIdeal.Gen
open Idealize.ShloMosaic Idealize.ShloMosaic.TcCoe

set_option maxHeartbeats 4000000 in
theorem runA_inner (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 i) (hc1 : ¬cond0_1 i)
    (x0 : Vec Ideal S128x4096 .bf16) (x1 : Vec Ideal S16x16 .bf16) (x2 : Vec Ideal S256x256 .bf16) (x3 : Vec Ideal S1024x1024 .i8) (x4 : Vec Ideal S1x1024 .f32) (x5 : Vec Ideal S28x28 .bf16) (x6 : Vec Ideal S512x512 .bf16) (xs2 : Vec Ideal S16x224x512 .bf16) :
    (runA (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs2).2.1 = innerList (innerInLoad harg3 x2) (tokenLoad harg1 x0) := by
  rfl

set_option maxHeartbeats 4000000 in
theorem runA_outer (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 i) (hc1 : ¬cond0_1 i)
    (x0 : Vec Ideal S128x4096 .bf16) (x1 : Vec Ideal S16x16 .bf16) (x2 : Vec Ideal S256x256 .bf16) (x3 : Vec Ideal S1024x1024 .i8) (x4 : Vec Ideal S1x1024 .f32) (x5 : Vec Ideal S28x28 .bf16) (x6 : Vec Ideal S512x512 .bf16) (xs2 : Vec Ideal S16x224x512 .bf16) :
    (runA (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs2).1 = outerList (outerInLoad harg2 x1) (innerInLoad harg3 x2) (tokenLoad harg1 x0) arg9.view := by
  rfl

/-- The rotated input, as the first grid point loads it back. -/
def firstInput {arg1 : Memref sig .tc .vmem S128x4096 .bf16} (harg1 : arg1.IsWhole) {arg2 : Memref sig .tc .vmem S16x16 .bf16} (harg2 : arg2.IsWhole)
    {arg3 : Memref sig .tc .vmem S256x256 .bf16} (harg3 : arg3.IsWhole) (arg9 : Memref sig .tc .vmem S16x128x256 .bf16) (arg10 : Memref sig .tc .vmem S128x4096 .bf16)
    (x0 : Vec Ideal S128x4096 .bf16) (x1 : Vec Ideal S16x16 .bf16) (x2 : Vec Ideal S256x256 .bf16) : Vec Ideal S128x4096 .bf16 :=
  arg10.view.readCov (outerList (outerInLoad harg2 x1) (innerInLoad harg3 x2) (tokenLoad harg1 x0) arg9.view)
    (Rect.unit (s := S128x4096) ![0, 0] S128x4096.size (by
      intro q
      fin_cases q
      · show 0 + 128 ≤ 128; omega
      · show 0 + 4096 ≤ 4096; omega)).toLoadRect

set_option maxHeartbeats 4000000 in
private theorem runA_slice_word (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 i) (hc1 : ¬cond0_1 i)
    (x0 : Vec Ideal S128x4096 .bf16) (x1 : Vec Ideal S16x16 .bf16) (x2 : Vec Ideal S256x256 .bf16) (x3 : Vec Ideal S1024x1024 .i8) (x4 : Vec Ideal S1x1024 .f32) (x5 : Vec Ideal S28x28 .bf16) (x6 : Vec Ideal S512x512 .bf16) (xs2 : Vec Ideal S16x224x512 .bf16) :
    (runA (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs2).2.2.1 = sliceList i (halfOf harg4 harg5 harg7 (runA.sl.v564 (F := Ideal) c arg1 harg1 arg2 harg2 arg3 harg3 arg9 arg10 x0 x1 x2) x3 x4 x6 0)
      (halfOf harg4 harg5 harg7 (runA.sl.v564 (F := Ideal) c arg1 harg1 arg2 harg2 arg3 harg3 arg9 arg10 x0 x1 x2) x3 x4 x6 1) := by
  rfl

set_option maxHeartbeats 4000000 in
private theorem outer_word (c : Dev nD) (arg1 : Memref sig .tc .vmem S128x4096 .bf16) (harg1 : arg1.IsWhole) (arg2 : Memref sig .tc .vmem S16x16 .bf16) (harg2 : arg2.IsWhole)
    (arg3 : Memref sig .tc .vmem S256x256 .bf16) (harg3 : arg3.IsWhole) (arg9 : Memref sig .tc .vmem S16x128x256 .bf16)
    (x0 : Vec Ideal S128x4096 .bf16) (x1 : Vec Ideal S16x16 .bf16) (x2 : Vec Ideal S256x256 .bf16) :
    runA.sl.HS1_128 (F := Ideal) c arg1 harg1 arg2 harg2 arg3 harg3 arg9 x0 x1 x2 = outerList (outerInLoad harg2 x1) (innerInLoad harg3 x2) (tokenLoad harg1 x0) arg9.view := by
  rfl

private theorem input_word (c : Dev nD) (arg1 : Memref sig .tc .vmem S128x4096 .bf16) (harg1 : arg1.IsWhole) (arg2 : Memref sig .tc .vmem S16x16 .bf16) (harg2 : arg2.IsWhole)
    (arg3 : Memref sig .tc .vmem S256x256 .bf16) (harg3 : arg3.IsWhole) (arg9 : Memref sig .tc .vmem S16x128x256 .bf16) (arg10 : Memref sig .tc .vmem S128x4096 .bf16)
    (x0 : Vec Ideal S128x4096 .bf16) (x1 : Vec Ideal S16x16 .bf16) (x2 : Vec Ideal S256x256 .bf16) :
    runA.sl.v564 (F := Ideal) c arg1 harg1 arg2 harg2 arg3 harg3 arg9 arg10 x0 x1 x2 = firstInput harg1 harg2 harg3 arg9 arg10 x0 x1 x2 := by
  unfold runA.sl.v564 firstInput
  rw [outer_word]

theorem runA_slice (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 i) (hc1 : ¬cond0_1 i)
    (x0 : Vec Ideal S128x4096 .bf16) (x1 : Vec Ideal S16x16 .bf16) (x2 : Vec Ideal S256x256 .bf16) (x3 : Vec Ideal S1024x1024 .i8) (x4 : Vec Ideal S1x1024 .f32) (x5 : Vec Ideal S28x28 .bf16) (x6 : Vec Ideal S512x512 .bf16) (xs2 : Vec Ideal S16x224x512 .bf16) :
    (runA (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs2).2.2.1 = sliceList i (halfOf harg4 harg5 harg7 (firstInput harg1 harg2 harg3 arg9 arg10 x0 x1 x2) x3 x4 x6 0)
      (halfOf harg4 harg5 harg7 (firstInput harg1 harg2 harg3 arg9 arg10 x0 x1 x2) x3 x4 x6 1) := by
  rw [← input_word c]
  exact runA_slice_word c i arg1 harg1 arg2 harg2 arg3 harg3 arg4 harg4 arg5 harg5 arg6 harg6 arg7 harg7 arg8 harg8 arg9 harg9 arg10 harg10 arg11 harg11 hc0 hc1 x0 x1 x2 x3 x4 x5 x6 xs2

theorem firstInput_eq {arg1 : Memref sig .tc .vmem S128x4096 .bf16} (harg1 : arg1.IsWhole) {arg2 : Memref sig .tc .vmem S16x16 .bf16} (harg2 : arg2.IsWhole)
    {arg3 : Memref sig .tc .vmem S256x256 .bf16} (harg3 : arg3.IsWhole) (arg9 : Memref sig .tc .vmem S16x128x256 .bf16) (arg10 : Memref sig .tc .vmem S128x4096 .bf16)
    (x0 : Vec Ideal S128x4096 .bf16) (x1 : Vec Ideal S16x16 .bf16) (x2 : Vec Ideal S256x256 .bf16) :
    firstInput harg1 harg2 harg3 arg9 arg10 x0 x1 x2 = rotatedIn x1 x2 (tokenLoad harg1 x0) := by
  unfold firstInput
  rw [View.readCov_eq_canon', outerInLoad_eq, innerInLoad_eq]
  funext j
  obtain ⟨t, k, rfl⟩ : ∃ (t : Fin 128) (k : Fin 4096), j = ix2 t k := ⟨j 0, j 1, by funext q; fin_cases q <;> rfl⟩
  refine (congrArg (View.canon (outerList x1 x2 (tokenLoad harg1 x0) arg9.view)) ?_).trans (outerList_apply x1 x2 (tokenLoad harg1 x0) arg9.view t k)
  funext q
  refine Fin.ext ?_
  fin_cases q
  · show 0 + 1 * t.val = t.val; omega
  · show 0 + 1 * k.val = k.val; omega

end Cert.Body

end
-- ==== Proof.Body.SoundA.lean ====
/- The kernel body at the first grid point, with what it leaves. -/
module

public import proofs.«01_k».proof.Proof.Body.Data
public import proofs.«01_k».proof.Proof.Body.ValA

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem inputA (c : Dev nD) (t : Fin cfg0.N) (et : t = t0_0) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 (grid0.coords t)) (hc1 : ¬cond0_1 (grid0.coords t)) (X : Vec Ideal S16x224x512 .bf16) (f : arg10.view.ty.Contents (Elt Ideal)) :
    arg10.view.read (Elt Ideal) (arg10.view.writes (Elt Ideal) f (runA c (grid0.coords t) arg1 harg1 arg2 harg2 arg3 harg3 arg4 harg4 arg5 harg5 arg6 harg6 arg7 harg7 arg8 harg8 arg9 harg9 arg10 harg10 arg11 harg11 hc0 hc1 (iblk m c 0 t) (iblk m c 1 t) (iblk m c 2 t) (iblk m c 3 t) (iblk m c 4 t) (iblk m c 5 t) (iblk m c 6 t) X).1) = Zval m c := by
  subst et
  rw [runA_outer, read_outer, outerInLoad_eq, innerInLoad_eq, tokenLoad_eq]
  rfl

theorem goodA (c : Dev nD) (t : Fin cfg0.N) (et : t = t0_0) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : cond0_0 (grid0.coords t)) (hc1 : ¬cond0_1 (grid0.coords t)) (X : Vec Ideal S16x224x512 .bf16) :
    Good m c (t.val + 1) (arg11.view.read (Elt Ideal) (arg11.view.writes (Elt Ideal) (harg11.unread X) (runA c (grid0.coords t) arg1 harg1 arg2 harg2 arg3 harg3 arg4 harg4 arg5 harg5 arg6 harg6 arg7 harg7 arg8 harg8 arg9 harg9 arg10 harg10 arg11 harg11 hc0 hc1 (iblk m c 0 t) (iblk m c 1 t) (iblk m c 2 t) (iblk m c 3 t) (iblk m c 4 t) (iblk m c 5 t) (iblk m c 6 t) X).2.2.1)) := by
  subst et
  rw [runA_slice, halfOf_eq, halfOf_eq, firstInput_eq, tokenLoad_eq]
  exact good_step m c t0_0 X (good_zero m c X) harg11

set_option maxHeartbeats 3200000 in
/-- The body at the first grid point. -/
theorem soundA (c : Dev nD) (t : Fin cfg0.N) (hz : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6]
  rw [show (dats m 0 c).owesAt () t.succ = (dats m 0 c).owesAt () t.castSucc from rfl]
  rw [Phi_eq, Phi_eq, show t.succ.val = t.val + 1 from rfl, show t.castSucc.val = t.val from rfl, show PhiS m c (t.val + 1) = PhiAfter m c (t.val + 1) from rfl]
  have hN : t.val < 14 := lt_of_lt_of_eq t.isLt (show cfg0.N = 14 from N_0)
  have h0 : t.val % 14 = 0 := by omega
  have h1 : ¬t.val % 14 = 13 := by omega
  have et : t = t0_0 := Fin.ext hz
  rw [leaves0_7_idle m c t h1, PhiS_zero m c _ hz, PhiA0_eq]
  unfold PhiAfter
  iintro ⟨⟨⟨HS0, HS1, ⟨%X, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) X).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, ⟨%fT0, HS0⟩, ⟨%es1, HS1⟩, HS2⟩
  isplitl [HS0 HS1 HS2 Hg]
  · isplitl [HS0 HS1 HS2]
    · isplitl [HS0]
      · iexists _; unfold owns; iexists _; isplitr
        swap; · iexact HS0
        ipureintro; rfl
      isplitl [HS1]
      · unfold owns; iexists _; isplitr
        swap; · iexact HS1
        ipureintro
        exact inputA m c t et _ _ _ _ _ _ _ _ _ _ _ _ _ _ _ _ _ _ _ _ _ _ _ _ X _
      iexists _; isplitr
      swap
      · unfold owns; iexists _; isplitr
        swap; · iexact HS2
        ipureintro; rfl
      ipureintro
      exact fun _ => goodA m c t et _ _ _ _ _ _ _ _ _ _ _ _ _ _ _ _ _ _ _ _ _ _ _ _ X
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Body

end
-- ==== Proof.Body.ValB.lean ====
/- What a middle grid point leaves behind. -/
module

public import proofs.«01_k».proof.Proof.Body.RunB
public import proofs.«01_k».proof.Proof.Body.Loads
import all proofs.«01_k».proof.Proof.Body.RunB

@[expose] public section

set_option maxRecDepth 16384

noncomputable section

namespace Cert.Body

open Cert.KernelIdeal Cert.KernelIdeal.Gen
open Idealize.ShloMosaic Idealize.ShloMosaic.TcCoe

set_option maxHeartbeats 4000000 in
theorem runB_pieces (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : ¬cond0_0 i) (hc1 : ¬cond0_1 i)
    (x0 : Vec Ideal S128x4096 .bf16) (x1 : Vec Ideal S16x16 .bf16) (x2 : Vec Ideal S256x256 .bf16) (x3 : Vec Ideal S1024x1024 .i8) (x4 : Vec Ideal S1x1024 .f32) (x5 : Vec Ideal S28x28 .bf16) (x6 : Vec Ideal S512x512 .bf16) (xs1 : Vec Ideal S128x4096 .bf16) (xs2 : Vec Ideal S16x224x512 .bf16) :
    (runB (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs1 xs2).1
      = sliceList i (halfOf harg4 harg5 harg7 (inputLoad harg10 xs1) x3 x4 x6 0) (halfOf harg4 harg5 harg7 (inputLoad harg10 xs1) x3 x4 x6 1) := by
  rfl

end Cert.Body

end
-- ==== Proof.Body.SoundB.lean ====
/- The kernel body at a middle grid point, with what it leaves. -/
module

public import proofs.«01_k».proof.Proof.Body.Data
public import proofs.«01_k».proof.Proof.Body.ValB

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem goodB (c : Dev nD) (t : Fin cfg0.N) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : ¬cond0_0 (grid0.coords t)) (hc1 : ¬cond0_1 (grid0.coords t)) (X : Vec Ideal S16x224x512 .bf16) (hX : Good m c t.val X) :
    Good m c (t.val + 1) (arg11.view.read (Elt Ideal) (arg11.view.writes (Elt Ideal) (harg11.unread X) (runB c (grid0.coords t) arg1 harg1 arg2 harg2 arg3 harg3 arg4 harg4 arg5 harg5 arg6 harg6 arg7 harg7 arg8 harg8 arg9 harg9 arg10 harg10 arg11 harg11 hc0 hc1 (iblk m c 0 t) (iblk m c 1 t) (iblk m c 2 t) (iblk m c 3 t) (iblk m c 4 t) (iblk m c 5 t) (iblk m c 6 t) (Zval m c) X).1)) := by
  rw [runB_pieces, halfOf_eq, halfOf_eq, inputLoad_eq]
  exact good_step m c t X hX harg11

set_option maxHeartbeats 3200000 in
/-- The body at a middle grid point. -/
theorem soundB (c : Dev nD) (t : Fin cfg0.N) (h0 : ¬t.val % 14 = 0) (h1 : ¬t.val % 14 = 13) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6]
  rw [show (dats m 0 c).owesAt () t.succ = (dats m 0 c).owesAt () t.castSucc from rfl]
  rw [Phi_eq, Phi_eq, show t.succ.val = t.val + 1 from rfl, show t.castSucc.val = t.val from rfl, show PhiS m c (t.val + 1) = PhiAfter m c (t.val + 1) from rfl]
  have hN : t.val < 14 := lt_of_lt_of_eq t.isLt (show cfg0.N = 14 from N_0)
  have hz : ¬t.val = 0 := by omega
  rw [leaves0_7_idle m c t h1, PhiS_pos m c _ hz]
  unfold PhiAfter
  iintro ⟨⟨⟨HS0, HS1, ⟨%X, %hX, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (Zval m c) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexists _; isplitr
      swap
      · unfold owns; iexists _; isplitr
        swap; · iexact HS2
        ipureintro; rfl
      ipureintro
      exact fun _ => goodB m c t _ _ _ _ _ _ _ _ _ _ _ _ _ _ _ _ _ _ _ _ _ _ _ _ X (hX hN)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Body

end
-- ==== Proof.Body.RunC.lean ====
/- One whole run of the kernel body: at the last grid point. -/
module

public import proofs.«01_k».proof.Proof.Body.RunA

@[expose] public section

-- membership in rectangles of the kernel's own extents recurses once per coordinate of the long axes
set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2964000 in
/-- The kernel body run at the last grid point. The witnesses are the pieces its stores leave, last first: of the result `arg8`. On whole memrefs, the inputs at their contents, the body runs to the continuation holding the inputs unchanged. -/
noncomputable def runC (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : ¬cond0_0 i) (hc1 : cond0_1 i)
    (x0 : Vec F S128x4096 .bf16) (x1 : Vec F S16x16 .bf16) (x2 : Vec F S256x256 .bf16) (x3 : Vec F S1024x1024 .i8) (x4 : Vec F S1x1024 .f32) (x5 : Vec F S28x28 .bf16) (x6 : Vec F S512x512 .bf16) (xs1 : Vec F S128x4096 .bf16) (xs2 : Vec F S16x224x512 .bf16) :
    { L7 : List (View.Piece (Elt F) S128x14336 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ owns (c : Thread nD τ) arg10 fullShare xs1 ∗ (∃ d, owns (c : Thread nD τ) arg11 fullShare d)) -∗ K ⟨⟩))
          ⊢ wp frame (wpE (defs₀ (F := F)) Variants.none c none) E (cc0_quip_int2 i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_quip_int2_eq_skeleton]; unfold cc0_quip_int2_skel
    simp only [k0_part97_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs2; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    isplitl [HS1]
    · iexists _; isplitr; · ipureintro; exact harg10.read_unread _
      iexact HS1
    iexists _, _; isplitr; swap; · iexact HS2
    ipureintro; rfl

end Cert.Body

end
-- ==== Proof.Body.ValC.lean ====
/- What the last grid point leaves behind. -/
module

public import proofs.«01_k».proof.Proof.Body.RunC
public import proofs.«01_k».proof.Proof.Body.Loads
public import proofs.«01_k».proof.Proof.Body.RotOut
import all proofs.«01_k».proof.Proof.Body.RunC

@[expose] public section

set_option maxRecDepth 16384

noncomputable section

namespace Cert.Body

open Cert.KernelIdeal Cert.KernelIdeal.Gen
open Idealize.ShloMosaic Idealize.ShloMosaic.TcCoe

set_option maxHeartbeats 4000000 in
theorem runC_pieces (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : ¬cond0_0 i) (hc1 : cond0_1 i)
    (x0 : Vec Ideal S128x4096 .bf16) (x1 : Vec Ideal S16x16 .bf16) (x2 : Vec Ideal S256x256 .bf16) (x3 : Vec Ideal S1024x1024 .i8) (x4 : Vec Ideal S1x1024 .f32) (x5 : Vec Ideal S28x28 .bf16) (x6 : Vec Ideal S512x512 .bf16) (xs1 : Vec Ideal S128x4096 .bf16) (xs2 : Vec Ideal S16x224x512 .bf16) :
    (runC (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs1 xs2).1
      = outList (outerOutLoad harg6 x5) (productLoad arg11 (arg11.view.writes (Elt Ideal) (harg11.unread xs2)
          (sliceList i (halfOf harg4 harg5 harg7 (inputLoad harg10 xs1) x3 x4 x6 0) (halfOf harg4 harg5 harg7 (inputLoad harg10 xs1) x3 x4 x6 1)))) := by
  rfl

end Cert.Body

end
-- ==== Proof.Body.SoundC.lean ====
/- The kernel body at the last grid point, with what it leaves. -/
module

public import proofs.«01_k».proof.Proof.Body.Data
public import proofs.«01_k».proof.Proof.Body.ValC

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem outC (c : Dev nD) (t : Fin cfg0.N) (et : t = t0_13) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x1024 .i8) (harg4 : arg4.IsWhole) (arg5 : Memref sig .tc .vmem S1x1024 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S16x128x256 .bf16) (harg9 : arg9.IsWhole) (arg10 : Memref sig .tc .vmem S128x4096 .bf16) (harg10 : arg10.IsWhole) (arg11 : Memref sig .tc .vmem S16x224x512 .bf16) (harg11 : arg11.IsWhole) (hc0 : ¬cond0_0 (grid0.coords t)) (hc1 : cond0_1 (grid0.coords t)) (X : Vec Ideal S16x224x512 .bf16) (hX : Good m c t.val X) (f : arg8.view.ty.Contents (Elt Ideal)) :
    arg8.view.read (Elt Ideal) (arg8.view.writes (Elt Ideal) f (runC c (grid0.coords t) arg1 harg1 arg2 harg2 arg3 harg3 arg4 harg4 arg5 harg5 arg6 harg6 arg7 harg7 arg8 harg8 arg9 harg9 arg10 harg10 arg11 harg11 hc0 hc1 (iblk m c 0 t) (iblk m c 1 t) (iblk m c 2 t) (iblk m c 3 t) (iblk m c 4 t) (iblk m c 5 t) (iblk m c 6 t) (Zval m c) X).1) = Yval m c := by
  subst et
  rw [runC_pieces, halfOf_eq, halfOf_eq, inputLoad_eq, outerOutLoad_eq]
  exact read_out m c arg11 _ (good_step m c t0_13 X hX harg11) arg8.view f

set_option maxHeartbeats 3200000 in
/-- The body at the last grid point. -/
theorem soundC (c : Dev nD) (t : Fin cfg0.N) (h1 : t.val % 14 = 13) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6]
  rw [show (dats m 0 c).owesAt () t.succ = (dats m 0 c).owesAt () t.castSucc from rfl]
  rw [Phi_eq, Phi_eq, show t.succ.val = t.val + 1 from rfl, show t.castSucc.val = t.val from rfl, show PhiS m c (t.val + 1) = PhiAfter m c (t.val + 1) from rfl]
  have hN : t.val < 14 := lt_of_lt_of_eq t.isLt (show cfg0.N = 14 from N_0)
  have h0 : ¬t.val % 14 = 0 := by omega
  have hz : ¬t.val = 0 := by omega
  have et : t = t0_13 := Fin.ext (by show t.val = 13; omega)
  rw [leaves0_7 m c t h1, PhiS_pos m c _ hz]
  unfold PhiAfter
  iintro ⟨⟨⟨HS0, HS1, ⟨%X, %hX, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (Zval m c) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%f7, H7⟩, HS0, HS1, HS2⟩
  isplitl [HS0 HS1 HS2 Hg]
  · isplitl [HS0 HS1 HS2]
    · isplitl [HS0]
      · iexact HS0
      isplitl [HS1]
      · iexact HS1
      icases HS2 with ⟨%d11, HS2⟩
      iexists d11; isplitr
      · ipureintro; intro h; omega
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact outC m c t et _ _ _ _ _ _ _ _ _ _ _ _ _ _ _ _ _ _ _ _ _ _ _ _ X (hX hN) _

end Cert.Body

end
-- ==== Proof.Body.Launch.lean ====
/- The launch: the kernel body at every point, and the whole run with what it leaves in every array. -/
module

public import proofs.«01_k».proof.Proof.Body.SoundA
public import proofs.«01_k».proof.Proof.Body.SoundB
public import proofs.«01_k».proof.Proof.Body.SoundC

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 14 := lt_of_lt_of_eq t.isLt (show cfg0.N = 14 from N_0)
  by_cases hz : t.val = 0
  · exact soundA m c t hz
  · by_cases h1 : t.val % 14 = 13
    · exact soundC m c t h1
    · exact soundB m c t (by omega) h1

theorem defs₀_row (t : Fin cfg0.N) : defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]

theorem hout (c : Dev nD) : (dats m 0 c).Φ (Fin.last cfg0.N) ⊢ Pipeline.ΦA spec0 c := by
  rw [Phi_eq, PhiS_pos m c _ (by rw [Fin.val_last]; have : cfg0.N = 14 := N_0; omega), PhiA0_eq]
  unfold PhiAfter
  iintro ⟨⟨HS0, HS1, ⟨%X, -, HS2⟩⟩, Hg⟩
  isplitl [HS0 HS1 HS2]
  · isplitl [HS0]
    · iexact HS0
    isplitl [HS1]
    · iexists _; iexact HS1
    iexists _; iexact HS2
  iexact Hg

-- the run's implicit arguments are found by unifying its conclusion with this one
set_option backward.isDefEq.respectTransparency.types false in
set_option maxHeartbeats 800000 in
/-- The launch: the run with what the pipeline leaves in every array, and every counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.Body

end
-- ==== Proof.Body.Result.lean ====
/- What the run leaves in the result buffer, and the blocks of the windows as parts of the arguments. -/
module

public import proofs.«01_k».proof.Proof.Body.Launch
public import Idealize.ShloMosaic.Lib.Claim
public import Idealize.ShloMosaic.Lib.Pipeline.ValueKit

@[expose] public section

set_option maxRecDepth 16384

noncomputable section

namespace Cert.Body

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

theorem idx3 : ∀ t : Fin cfg0.N, win0_3.index t = ![0, t.val] := by decide +kernel
theorem idx4 : ∀ t : Fin cfg0.N, win0_4.index t = ![0, t.val] := by decide +kernel
theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel

theorem arr7_eq (c : Dev nD) : (dats m 0 c).arrAt 7 (cfgs 0).N = Yval m c := by
  refine (dats m 0 c).arrAt_eq_of_covers 7 _ (by decide +kernel) fun t hf y => ?_
  blk_simp
  rw [after0_7]
  refine congrArg (Yval m c) (funext fun a => Fin.ext ?_)
  blk_simp [idx7 t]
  fin_cases a <;> blk_simp [idx7 t]

/-- The block of window 1 is its whole array. -/
theorem block1 (c : Dev nD) (t : Fin cfg0.N) : iblk m c 1 t = m ((c : Thread nD τ).loc main_arg1) := by
  funext y
  blk_simp [iblk]
  rw [V_main_arg1]
  refine congrArg (m ((c : Thread nD τ).loc main_arg1)) (funext fun a => Fin.ext ?_)
  fin_cases a <;> blk_simp [idx1 t]

/-- The block of window 2 is its whole array. -/
theorem block2 (c : Dev nD) (t : Fin cfg0.N) : iblk m c 2 t = m ((c : Thread nD τ).loc main_arg2) := by
  funext y
  blk_simp [iblk]
  rw [V_main_arg2]
  refine congrArg (m ((c : Thread nD τ).loc main_arg2)) (funext fun a => Fin.ext ?_)
  fin_cases a <;> blk_simp [idx2 t]

/-- The block of window 5 is its whole array. -/
theorem block5 (c : Dev nD) (t : Fin cfg0.N) : iblk m c 5 t = m ((c : Thread nD τ).loc main_arg5) := by
  funext y
  blk_simp [iblk]
  rw [V_main_arg5]
  refine congrArg (m ((c : Thread nD τ).loc main_arg5)) (funext fun a => Fin.ext ?_)
  fin_cases a <;> blk_simp [idx5 t]

/-- The block of window 6 is its whole array. -/
theorem block6 (c : Dev nD) (t : Fin cfg0.N) : iblk m c 6 t = m ((c : Thread nD τ).loc main_arg6) := by
  funext y
  blk_simp [iblk]
  rw [V_main_arg6]
  refine congrArg (m ((c : Thread nD τ).loc main_arg6)) (funext fun a => Fin.ext ?_)
  fin_cases a <;> blk_simp [idx6 t]

theorem column_lt (t : Fin cfg0.N) (j : Fin 1024) : 1024 * t.val + j.val < 14336 := by
  have : t.val < 14 := lt_of_lt_of_eq t.isLt N_0
  omega

theorem scales_apply (s : FVec Ideal S14336 .f32) (n : Fin 14336) : shapeCast S1x14336 s shapeCasts_S14336_S1x14336 (ix2 (0 : Fin 1) n) = s (ix1 n) := by
  pointwise

theorem tokens_apply (x : FVec Ideal S1x128x4096 .bf16) (i : Fin 128) (j : Fin 4096) :
    shapeCast S128x4096 x shapeCasts_S1x128x4096_S128x4096 (ix2 i j) = x (ix3 (0 : Fin 1) i j) := by
  pointwise

theorem result_apply (x : FVec Ideal S128x14336 .bf16) (i : Fin 128) (j : Fin 14336) :
    shapeCast S1x128x14336 x shapeCasts_S128x14336_S1x128x14336 (ix3 (0 : Fin 1) i j) = x (ix2 i j) := by
  pointwise

/-- The block of codes of a point is a block of columns. -/
theorem block3 (c : Dev nD) (t : Fin cfg0.N) (i j : Fin 1024) :
    iblk m c 3 t (ix2 i j) = m ((c : Thread nD τ).loc main_arg3) (ix2 i (⟨1024 * t.val + j.val, column_lt t j⟩ : Fin 14336)) := by
  blk_simp [iblk]
  rw [V_main_arg3]
  refine congrArg (m ((c : Thread nD τ).loc main_arg3)) (funext fun a => Fin.ext ?_)
  fin_cases a
  · blk_simp [idx3 t]
    rfl
  · blk_simp [idx3 t]
    show t.val * 1024 + j.val = 1024 * t.val + j.val
    omega

theorem V_tokens (c : Dev nD) : V m c main_v0 = shapeCast S128x4096 (m ((c : Thread nD τ).loc main_arg0)) shapeCasts_S1x128x4096_S128x4096 := by
  show StableHlo.after hostOps0 _ (Proc.devRef .tc main_v0) = _
  after_results
  rfl

theorem V_scales (c : Dev nD) : V m c main_v1 = shapeCast S1x14336 (m ((c : Thread nD τ).loc main_arg4)) shapeCasts_S14336_S1x14336 := by
  show StableHlo.after hostOps0 _ (Proc.devRef .tc main_v1) = _
  after_results
  rfl

/-- The block of scales of a point is a block of columns. -/
theorem block4 (c : Dev nD) (t : Fin cfg0.N) (j : Fin 1024) :
    iblk m c 4 t (ix2 (0 : Fin 1) j) = m ((c : Thread nD τ).loc main_arg4) (ix1 (⟨1024 * t.val + j.val, column_lt t j⟩ : Fin 14336)) := by
  have h : iblk m c 4 t (ix2 (0 : Fin 1) j) = V m c main_v1 (ix2 (0 : Fin 1) (⟨1024 * t.val + j.val, column_lt t j⟩ : Fin 14336)) := by
    blk_simp [iblk]
    refine congrArg (V m c main_v1) (funext fun a => Fin.ext ?_)
    fin_cases a
    · blk_simp [idx4 t]
    · blk_simp [idx4 t]
      show t.val * 1024 + j.val = 1024 * t.val + j.val
      omega
  rw [h, V_scales]
  generalize m ((c : Thread nD τ).loc main_arg4) = s
  exact scales_apply s _

/-- The block of the input is the whole input. -/
theorem block0 (c : Dev nD) (t : Fin cfg0.N) (i : Fin 128) (j : Fin 4096) :
    iblk m c 0 t (ix2 i j) = m ((c : Thread nD τ).loc main_arg0) (ix3 (0 : Fin 1) i j) := by
  have h : iblk m c 0 t (ix2 i j) = V m c main_v0 (ix2 i j) := by
    blk_simp [iblk]
    refine congrArg (V m c main_v0) (funext fun a => Fin.ext ?_)
    fin_cases a <;> blk_simp [idx0 t]
  rw [h, V_tokens]
  exact tokens_apply _ i j

/-- What the last host operation leaves in the result buffer. -/
theorem tail_eq (c : Dev nD) : Pipeline.afterTail₀ cfgs (dats m) 0 (V0 m) [hostOps1] c main_v3
    = shapeCast S1x128x14336 (Yval m c) shapeCasts_S128x14336_S1x128x14336 := by
  unfold Pipeline.afterTail₀
  show StableHlo.after hostOps1 _ (Proc.devRef .tc main_v3) = _
  after_results
  have h := Pipeline.withArrays_arr spec0 launch0.win.arr_inj c (V0 m c) (fun w => (dats m 0 c).arrAt w (cfgs 0).N) 7
  exact congrArg (fun X => shapeCast S1x128x14336 X shapeCasts_S128x14336_S1x128x14336) (h.trans (arr7_eq m c))

end Cert.Body

end
-- ==== Proof.Body.Ref.lean ====
/- The reference at an index: its own operations opened into sums over the arguments. -/
module

public import proofs.«01_k».proof.Proof.Gen.ReferenceIdeal.Run
public import proofs.«01_k».proof.Proof.Body.Slices

@[expose] public section

set_option maxRecDepth 16384

noncomputable section

namespace Cert.RefBody

open Cert.ReferenceIdeal Cert.ReferenceIdeal.Gen
open Idealize.ShloMosaic Idealize.ShloMosaic.TcCoe

/-- The rotated input. -/
def z (x : FVec Ideal S1x128x4096 .bf16) (v1 : FVec Ideal S16x16 .bf16) (v2 : FVec Ideal S256x256 .bf16) : FVec Ideal S128x1024x4 .bf16 :=
  shapeCast _ (truncf .bf16 (transpose S128x16x256 [1, 0, 2] (Host.dotGeneral dot_S16x16_S128x16x256_S16x128x256_0_1_1_02_n_n none v1
    (truncf .bf16 (Host.dotGeneral dot_S128x16x256_S256x256_S128x16x256_2_0_01_1_n_n none (shapeCast _ x shapeCasts_S1x128x4096_S128x16x256) v2)
      bitsLt_bf16_f32)) transposes_S16x128x256_S128x16x256_1_0_2) bitsLt_bf16_f32) shapeCasts_S128x16x256_S128x1024x4

/-- The levels of one field of the codes. -/
def lev (s : BitVec 32) (codes : IVec S1024x14336 8) : FVec Ideal S1024x14336 .bf16 :=
  subf (sitofp .bf16 (andi (Host.shrsi (extui 32 codes natLt_8_32) (broadcastInDim S1024x14336 ![] bcast_S_S1024x14336 (constantI S_ 32 s)))
    (broadcastInDim S1024x14336 ![] bcast_S_S1024x14336 (constantI S_ 32 3#32)))) (broadcastInDim S1024x14336 ![] bcast_S_S1024x14336 (constant S_ .bf16 0x3FC0#16))

/-- The product of one field of the codes. -/
def part (k : Nat) (hk : S128x1024x4.Slices ![0, 0, k] S128x1024x1) (s : BitVec 32) (zz : FVec Ideal S128x1024x4 .bf16) (codes : IVec S1024x14336 8) : FVec Ideal S128x14336 .f32 :=
  Host.dotGeneral dot_S128x1024_S1024x14336_S128x14336_1_0_0_1_n_n none
    (shapeCast _ (extractStridedSlice S128x1024x1 ![0, 0, k] zz hk) shapeCasts_S128x1024x1_S128x1024) (lev s codes)

/-- The output rotation of the scaled product. -/
def out (d : FVec Ideal S128x14336 .f32) (s : FVec Ideal S14336 .f32) (u1 : FVec Ideal S28x28 .bf16) (u2 : FVec Ideal S512x512 .bf16) : FVec Ideal S1x128x14336 .bf16 :=
  shapeCast _ (truncf .bf16 (transpose S128x28x512 [0, 2, 1] (Host.dotGeneral dot_S128x28x512_S28x28_S128x512x28_1_1_02_0_n_n none
    (truncf .bf16 (Host.dotGeneral dot_S128x28x512_S512x512_S128x28x512_2_1_01_0_n_n none (shapeCast _ (truncf .bf16
      (mulf d (broadcastInDim S128x14336 ![0, 1] bcast_S1x14336_S128x14336_0_1 (broadcastInDim S1x14336 ![1] bcast_S14336_S1x14336_1 s)))
      bitsLt_bf16_f32) shapeCasts_S128x14336_S128x28x512) u2) bitsLt_bf16_f32) u1) transposes_S128x512x28_S128x28x512_0_2_1) bitsLt_bf16_f32) shapeCasts_S128x28x512_S1x128x14336

theorem z_apply (x : FVec Ideal S1x128x4096 .bf16) (v1 : FVec Ideal S16x16 .bf16) (v2 : FVec Ideal S256x256 .bf16) (t : Fin 128) (a : Fin 16) (j : Fin 64) (k : Fin 4) :
    z x v1 v2 (ix3 t (⟨64 * a.val + j.val, by omega⟩ : Fin 1024) k)
      = ∑ c : Fin 16, v1 (ix2 c a) * ∑ d : Fin 256, x (ix3 (0 : Fin 1) t (⟨256 * c.val + d.val, by omega⟩ : Fin 4096)) * v2 (ix2 d (⟨4 * j.val + k.val, by omega⟩ : Fin 256)) := by
  unfold z
  pointwise
  refine Finset.sum_congr rfl fun c _ => congrArg (_ * ·) (Finset.sum_congr rfl fun d _ => ?_)
  exact congrArg₂ (· * ·) (congrArg (fun q => x (ix3 0 t q)) (Fin.ext (by show _ * 256 + _ = 256 * _ + _; omega)))
    (congrArg (fun q => v2 (ix2 d q)) (Fin.ext (by show (64 * a.val + j.val) % 64 * 4 + k.val = 4 * j.val + k.val; omega)))

theorem lev_apply (s : BitVec 32) (codes : IVec S1024x14336 8) (r : Fin 1024) (n : Fin 14336) :
    lev s codes (ix2 r n) = (((IntOp.andi (IntOp.shrsi .host ((codes (ix2 r n) : BitVec 8).setWidth 32) s) 3#32).toInt : ℝ) : EReal) - Ideal.ofBits .bf16 0x3FC0#16 := by
  unfold lev
  pointwise
  rfl

theorem part_apply (k : Fin 4) (hk : S128x1024x4.Slices ![0, 0, k.val] S128x1024x1) (s : BitVec 32) (zz : FVec Ideal S128x1024x4 .bf16) (codes : IVec S1024x14336 8) (t : Fin 128) (n : Fin 14336) :
    part k.val hk s zz codes (ix2 t n) = ∑ r : Fin 1024, zz (ix3 t r k) * lev s codes (ix2 r n) := by
  unfold part
  generalize lev s codes = w
  pointwise

theorem out_apply (d : FVec Ideal S128x14336 .f32) (s : FVec Ideal S14336 .f32) (u1 : FVec Ideal S28x28 .bf16) (u2 : FVec Ideal S512x512 .bf16) (t : Fin 128) (a : Fin 28) (b : Fin 512) :
    out d s u1 u2 (ix3 (0 : Fin 1) t (⟨512 * a.val + b.val, by omega⟩ : Fin 14336))
      = ∑ c : Fin 28, (∑ o : Fin 512, d (ix2 t (⟨512 * c.val + o.val, by omega⟩ : Fin 14336)) * s (ix1 (⟨512 * c.val + o.val, by omega⟩ : Fin 14336)) * u2 (ix2 b o)) * u1 (ix2 a c) := by
  unfold out
  pointwise
  refine Finset.sum_congr rfl fun c _ => congrArg (· * _) (Finset.sum_congr rfl fun o _ => ?_)
  have h : ∀ h₁ h₂, (⟨c.val * 512 + o.val, h₁⟩ : Fin 14336) = ⟨512 * c.val + o.val, h₂⟩ := fun _ _ => Fin.ext (by show _ * 512 + _ = 512 * _ + _; omega)
  exact congrArg (fun q => d (ix2 t q) * s (ix1 q) * u2 (ix2 b o)) (h _ _)

end Cert.RefBody

end
-- ==== Proof.Body.Equal.lean ====
/- The two sums are equal: the kernel's order of the products against the reference's, and the scale of 64 taken out and put back. -/
module

public import proofs.«01_k».proof.Proof.Body.Product
public import Mathlib.Data.EReal.Operations
public import Idealize.ShloMosaic.Lib.IdealHost

@[expose] public section

noncomputable section

namespace Cert.Body

open Idealize.ShloMosaic Idealize.ShloMosaic.TcCoe

/-- The sum over the rotated columns, taken field by field. -/
theorem sum_split (f : Fin 4096 → EReal) :
    ∑ i, f i = ∑ k : Fin 4, ∑ r : Fin 1024, f ⟨256 * (r.val / 64) + 64 * k.val + r.val % 64, by omega⟩ := by
  rw [← Fintype.sum_prod_type']
  refine Fintype.sum_equiv ⟨fun i => (⟨i.val / 64 % 4, by omega⟩, ⟨64 * (i.val / 256) + i.val % 64, by omega⟩),
    fun p => ⟨256 * (p.2.val / 64) + 64 * p.1.val + p.2.val % 64, by omega⟩, fun i => ?_, fun p => ?_⟩ _ _ fun i => ?_
  · exact Fin.ext (by show 256 * ((64 * (i.val / 256) + i.val % 64) / 64) + 64 * (i.val / 64 % 4) + (64 * (i.val / 256) + i.val % 64) % 64 = i.val; omega)
  · obtain ⟨k, r⟩ := p
    refine Prod.ext (Fin.ext ?_) (Fin.ext ?_)
    · show (256 * (r.val / 64) + 64 * k.val + r.val % 64) / 64 % 4 = k.val; omega
    · show 64 * ((256 * (r.val / 64) + 64 * k.val + r.val % 64) / 256) + (256 * (r.val / 64) + 64 * k.val + r.val % 64) % 64 = r.val; omega
  · exact congrArg f (Fin.ext (by show i.val = 256 * ((64 * (i.val / 256) + i.val % 64) / 64) + 64 * (i.val / 64 % 4) + (64 * (i.val / 256) + i.val % 64) % 64; omega))

/-- Multiplication by 64 distributes over a sum of extended reals. -/
theorem mul_sum_64 {ι : Type} (s : Finset ι) (f : ι → EReal) : ∑ i ∈ s, ((64 : ℝ) : EReal) * f i = ((64 : ℝ) : EReal) * ∑ i ∈ s, f i := by
  classical
  refine Finset.induction_on s (by simp) fun a s ha ih => ?_
  rw [Finset.sum_insert ha, Finset.sum_insert ha, ih, EReal.left_distrib_of_nonneg_of_ne_top (by exact_mod_cast (by norm_num : (0 : ℝ) ≤ 64)) (EReal.coe_ne_top _)]

/-- The two factors that the kernel works with, 64 in the levels and its inverse in the scales, cancel. -/
theorem scale_cancel (S s : EReal) : ((64 : ℝ) : EReal) * S * (s * (((1 / 64 : ℝ)) : EReal)) = S * s := by
  have h : ((64 : ℝ) : EReal) * ((1 / 64 : ℝ) : EReal) = 1 := by rw [← EReal.coe_mul]; norm_num
  calc ((64 : ℝ) : EReal) * S * (s * ((1 / 64 : ℝ) : EReal)) = (((64 : ℝ) : EReal) * ((1 / 64 : ℝ) : EReal)) * (S * s) := by ac_rfl
    _ = S * s := by rw [h, one_mul]

/-- The shift that the reference applies to reach field `k`. -/
def shiftOf (k : Fin 4) : BitVec 32 := BitVec.ofNat 32 (2 * k.val)

/-- The reference's level of field `k` of a byte. -/
def refLevel (k : Fin 4) (b : BitVec 8) : EReal :=
  (((IntOp.andi (IntOp.shrsi .host (b.setWidth 32) (shiftOf k)) 3#32).toInt : ℝ) : EReal) - Ideal.ofBits .bf16 0x3FC0#16

theorem threeHalves : Ideal.ofBits .bf16 0x3FC0#16 = ((3 / 2 : ℝ) : EReal) := by
  simp [Ideal.ofBits, Ideal.ieee, -EReal.coe_mul]; norm_num

theorem sixtyFourth : Ideal.ofBits .f32 0x3C800000#32 = ((1 / 64 : ℝ) : EReal) := by
  simp [Ideal.ofBits, Ideal.ieee, -EReal.coe_mul]; norm_num

/-- The kernel's level of a field is 64 times the reference's. -/
theorem level_eq (k : Fin 4) (b : BitVec 8) : level k.val b = ((64 : ℝ) : EReal) * refLevel k b := by
  have key : ∀ x y : ℤ, 2 * x = 64 * (2 * y - 3) → ((x : ℝ) : EReal) = ((64 : ℝ) : EReal) * (((y : ℝ) : EReal) - ((3 / 2 : ℝ) : EReal)) := by
    intro x y h
    rw [← EReal.coe_sub, ← EReal.coe_mul]
    refine congrArg _ ?_
    have h' : (2 : ℝ) * x = 64 * (2 * y - 3) := by exact_mod_cast h
    linarith
  unfold level refLevel shiftOf
  rw [threeHalves]
  obtain ⟨h0, h1, h2, h3⟩ := fieldByte_toInt b
  fin_cases k
  · exact key _ _ h0
  · exact key _ _ h1
  · exact key _ _ h2
  · exact key _ _ h3

end Cert.Body

end
-- ==== Proof.Body.Final.lean ====
/- The result that the run of the kernel leaves is the result of the reference. -/
module

public import proofs.«01_k».proof.Proof.Body.Result
public import proofs.«01_k».proof.Proof.Body.Ref
public import proofs.«01_k».proof.Proof.Body.Equal

@[expose] public section

set_option maxRecDepth 16384

noncomputable section

namespace Cert.RefBody

open Cert.ReferenceIdeal Cert.ReferenceIdeal.Gen
open Idealize.ShloMosaic Idealize.ShloMosaic.TcCoe

/-- The sum of the four products. -/
def total (x : FVec Ideal S1x128x4096 .bf16) (v1 : FVec Ideal S16x16 .bf16) (v2 : FVec Ideal S256x256 .bf16) (codes : IVec S1024x14336 8) :
    FVec Ideal S128x14336 .f32 :=
  addf (addf (addf (part 0 slices_S128x1024x4_S128x1024x1_0_0_0 0#32 (z x v1 v2) codes) (part 1 slices_S128x1024x4_S128x1024x1_0_0_1 2#32 (z x v1 v2) codes))
    (part 2 slices_S128x1024x4_S128x1024x1_0_0_2 4#32 (z x v1 v2) codes)) (part 3 slices_S128x1024x4_S128x1024x1_0_0_3 6#32 (z x v1 v2) codes)

/-- The reference's result is these operations, one after the other. -/
theorem res_eq (m : (ℓ : Loc nD τ sig) → Buf (Elt Ideal) ℓ) (c : Dev nD) :
    Cert.ReferenceIdeal.Value.res_main_v64 m c = out (total (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4)) (m ((c.tc : Thread nD τ).loc main_arg5)) (m ((c.tc : Thread nD τ).loc main_arg6)) := by
  unfold Cert.ReferenceIdeal.Value.res_main_v64 out total part lev z
  rfl

theorem total_apply (x : FVec Ideal S1x128x4096 .bf16) (v1 : FVec Ideal S16x16 .bf16) (v2 : FVec Ideal S256x256 .bf16) (codes : IVec S1024x14336 8)
    (t : Fin 128) (n : Fin 14336) :
    total x v1 v2 codes (ix2 t n) = ∑ k : Fin 4, ∑ r : Fin 1024, z x v1 v2 (ix3 t r k) * Cert.Body.refLevel k (codes (ix2 r n)) := by
  unfold total
  rw [Fin.sum_univ_four]
  have h : ∀ (k : Fin 4) hk s, s = Cert.Body.shiftOf k → part k.val hk s (z x v1 v2) codes (ix2 t n)
      = ∑ r : Fin 1024, z x v1 v2 (ix3 t r k) * Cert.Body.refLevel k (codes (ix2 r n)) := by
    intro k hk s hs
    rw [part_apply]
    refine Finset.sum_congr rfl fun r _ => congrArg₂ (· * ·) rfl ?_
    rw [lev_apply, hs]
    rfl
  exact congrArg₂ (· + ·) (congrArg₂ (· + ·) (congrArg₂ (· + ·) (h 0 _ _ rfl) (h 1 _ _ rfl)) (h 2 _ _ rfl)) (h 3 _ _ rfl)

end Cert.RefBody

namespace Cert.Body

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The rotated input of the reference, over the kernel's arguments. -/
def zRef (c : Dev nD) : FVec Ideal Cert.ReferenceIdeal.S128x1024x4 .bf16 :=
  RefBody.z (m ((c : Thread nD τ).loc main_arg0)) (m ((c : Thread nD τ).loc main_arg1)) (m ((c : Thread nD τ).loc main_arg2))

/-- The sum of the products of the reference, over the kernel's arguments. -/
def totalRef (c : Dev nD) : FVec Ideal Cert.ReferenceIdeal.S128x14336 .f32 :=
  RefBody.total (m ((c : Thread nD τ).loc main_arg0)) (m ((c : Thread nD τ).loc main_arg1)) (m ((c : Thread nD τ).loc main_arg2)) (m ((c : Thread nD τ).loc main_arg3))

/-- The rotated input: the kernel keeps field `k` of row `r` of the codes at its own column. -/
theorem z_eq (c : Dev nD) (t : Fin 128) (r : Fin 1024) (k : Fin 4) :
    Zval m c (ix2 t (⟨256 * (r.val / 64) + 64 * k.val + r.val % 64, by omega⟩ : Fin 4096)) = zRef m c (ix3 t r k) := by
  obtain ⟨a, j, rfl⟩ : ∃ (a : Fin 16) (j : Fin 64), r = ⟨64 * a.val + j.val, by omega⟩ :=
    ⟨⟨r.val / 64, by omega⟩, ⟨r.val % 64, by omega⟩, Fin.ext (by show r.val = 64 * (r.val / 64) + r.val % 64; omega)⟩
  rw [zRef, RefBody.z_apply]
  unfold Zval rotatedIn rotated
  rw [block1, block2]
  refine Finset.sum_congr rfl fun c' _ => congrArg₂ (· * ·) ?_ ?_
  · refine congrArg (fun q : Fin 16 => m ((c : Thread nD τ).loc main_arg1) (ix2 c' q)) (Fin.ext ?_)
    show (256 * ((64 * a.val + j.val) / 64) + 64 * k.val + (64 * a.val + j.val) % 64) / 256 = a.val
    omega
  · refine Finset.sum_congr rfl fun d _ => congrArg₂ (· * ·) ?_ ?_
    · exact block0 m c t0_0 t _
    · refine congrArg (fun q : Fin 256 => m ((c : Thread nD τ).loc main_arg2) (ix2 d q)) (Fin.ext ?_)
      show (256 * ((64 * a.val + j.val) / 64) + 64 * k.val + (64 * a.val + j.val) % 64) % 256 % 64 * 4
        + (256 * ((64 * a.val + j.val) / 64) + 64 * k.val + (64 * a.val + j.val) % 64) % 256 / 64 = 4 * j.val + k.val
      omega

/-- The kernel's sum over all columns is 64 times the reference's sum of the products. -/
theorem sum_eq (c : Dev nD) (t : Fin 128) (n : Fin 14336) :
    ∑ i : Fin 4096, Zval m c (ix2 t i) * level (i.val / 64 % 4) (m ((c : Thread nD τ).loc main_arg3) (ix2 (⟨64 * (i.val / 256) + i.val % 64, by omega⟩ : Fin 1024) n))
      = ((64 : ℝ) : EReal) * totalRef m c (ix2 t n) := by
  rw [totalRef, RefBody.total_apply, sum_split, ← mul_sum_64]
  refine Finset.sum_congr rfl fun k _ => ?_
  rw [← mul_sum_64]
  refine Finset.sum_congr rfl fun r _ => ?_
  rw [z_eq]
  have e1 : (256 * (r.val / 64) + 64 * k.val + r.val % 64) / 64 % 4 = k.val := by omega
  have e2 : (⟨64 * ((256 * (r.val / 64) + 64 * k.val + r.val % 64) / 256) + (256 * (r.val / 64) + 64 * k.val + r.val % 64) % 64, by omega⟩ : Fin 1024) = r := Fin.ext (by show 64 * ((256 * (r.val / 64) + 64 * k.val + r.val % 64) / 256) + (256 * (r.val / 64) + 64 * k.val + r.val % 64) % 64 = r.val; omega)
  show zRef m c (ix3 t r k) * level ((256 * (r.val / 64) + 64 * k.val + r.val % 64) / 64 % 4) _ = _
  rw [e1, e2, level_eq]
  show zRef m c (ix3 t r k) * (((64 : ℝ) : EReal) * refLevel k _) = ((64 : ℝ) : EReal) * (zRef m c (ix3 t r k) * refLevel k _)
  ac_rfl

/-- One half of a grid point's products, over the arguments. -/
theorem half_eq (c : Dev nD) (p : Fin cfg0.N) (h : Fin 2) (t : Fin 128) (b : Fin 512) (d : Fin 28) (hd : d.val = 2 * p.val + h.val) :
    halfAt m c p h (ix2 t b) = ∑ o : Fin 512, totalRef m c (ix2 t (⟨512 * d.val + o.val, by omega⟩ : Fin 14336))
      * m ((c : Thread nD τ).loc main_arg4) (ix1 (⟨512 * d.val + o.val, by omega⟩ : Fin 14336)) * m ((c : Thread nD τ).loc main_arg6) (ix2 b o) := by
  unfold halfAt plainHalf
  rw [half_apply, block6]
  refine Finset.sum_congr rfl fun o _ => congrArg (· * _) ?_
  refine Eq.trans ?_ (scale_cancel _ _)
  rw [← sum_eq, ← sixtyFourth]
  refine congrArg₂ (· * ·) (Finset.sum_congr rfl fun i _ => congrArg₂ (· * ·) rfl (congrArg _ ?_)) (congrArg₂ (· * ·) ?_ rfl)
  · refine (block3 m c p _ _).trans (congrArg (fun q : Fin 14336 => m ((c : Thread nD τ).loc main_arg3) (ix2 _ q)) (Fin.ext ?_))
    show 1024 * p.val + (512 * h.val + o.val) = 512 * d.val + o.val
    omega
  · refine (block4 m c p _).trans (congrArg (fun q : Fin 14336 => m ((c : Thread nD τ).loc main_arg4) (ix1 q)) (Fin.ext ?_))
    show 1024 * p.val + (512 * h.val + o.val) = 512 * d.val + o.val
    omega

/-- A row of the products, as the last point reads it. -/
theorem rows_eq (c : Dev nD) (t : Fin 128) (d : Fin 28) (b : Fin 512) :
    rowsAt m c (ix3 (⟨t.val / 8, by omega⟩ : Fin 16) (⟨d.val * 8 + t.val % 8, by omega⟩ : Fin 224) b)
      = ∑ o : Fin 512, totalRef m c (ix2 t (⟨512 * d.val + o.val, by omega⟩ : Fin 14336))
      * m ((c : Thread nD τ).loc main_arg4) (ix1 (⟨512 * d.val + o.val, by omega⟩ : Fin 14336)) * m ((c : Thread nD τ).loc main_arg6) (ix2 b o) := by
  have ht : (⟨8 * (t.val / 8) + (d.val * 8 + t.val % 8) % 16 % 8, by omega⟩ : Fin 128) = t := Fin.ext (by show 8 * (t.val / 8) + (d.val * 8 + t.val % 8) % 16 % 8 = t.val; omega)
  unfold rowsAt pick
  show (if (d.val * 8 + t.val % 8) % 16 / 8 = 0 then halfAt m c _ 0 else halfAt m c _ 1) (ix2 (⟨8 * (t.val / 8) + (d.val * 8 + t.val % 8) % 16 % 8, _⟩ : Fin 128) b) = _
  rw [ht]
  by_cases hh : (d.val * 8 + t.val % 8) % 16 / 8 = 0
  · rw [if_pos hh]
    refine half_eq m c _ 0 t b d ?_
    show d.val = 2 * ((d.val * 8 + t.val % 8) / 16) + 0
    omega
  · rw [if_neg hh]
    refine half_eq m c _ 1 t b d ?_
    show d.val = 2 * ((d.val * 8 + t.val % 8) / 16) + 1
    omega

/-- The kernel's result is the reference's, element by element. -/
theorem value_eq (c : Dev nD) :
    shapeCast S1x128x14336 (Yval m c) shapeCasts_S128x14336_S1x128x14336
      = RefBody.out (totalRef m c) (m ((c : Thread nD τ).loc main_arg4)) (m ((c : Thread nD τ).loc main_arg5)) (m ((c : Thread nD τ).loc main_arg6)) := by
  funext y
  obtain ⟨t, n, rfl⟩ : ∃ (t : Fin 128) (n : Fin 14336), y = ix3 (0 : Fin 1) t n := ⟨y 1, y 2, by
    funext q
    fin_cases q
    · exact Subsingleton.elim (α := Fin 1) _ _
    · rfl
    · rfl⟩
  obtain ⟨a, b, rfl⟩ : ∃ (a : Fin 28) (b : Fin 512), n = ⟨512 * a.val + b.val, by omega⟩ :=
    ⟨⟨n.val / 512, by omega⟩, ⟨n.val % 512, by omega⟩, Fin.ext (by show n.val = 512 * (n.val / 512) + n.val % 512; omega)⟩
  rw [RefBody.out_apply, result_apply]
  have ha : (⟨(512 * a.val + b.val) / 512, by omega⟩ : Fin 28) = a := Fin.ext (by show (512 * a.val + b.val) / 512 = a.val; omega)
  have hb : (⟨(512 * a.val + b.val) % 512, by omega⟩ : Fin 512) = b := Fin.ext (by show (512 * a.val + b.val) % 512 = b.val; omega)
  unfold Yval
  show rotatedOut _ _ t (⟨(512 * a.val + b.val) / 512, _⟩ : Fin 28) (⟨(512 * a.val + b.val) % 512, _⟩ : Fin 512) = _
  rw [ha, hb, block5]
  unfold rotatedOut
  refine Finset.sum_congr rfl fun d _ => ?_
  rw [mul_comm]
  exact congrArg (· * _) (rows_eq m c t d b)

/-- The run of the kernel: its result is the reference's operations applied to its arguments. -/
theorem run_value : θ_run defs (onTc (τ := τ) (main (F := Ideal))) ⟨m, fun _ => 0, ρ⟩ (fun r => ∀ c : Dev nD,
    r.2.mem ((c.tc : Thread nD τ).loc main_v3)
      = RefBody.out (totalRef m c) (m ((c : Thread nD τ).loc main_arg4)) (m ((c : Thread nD τ).loc main_arg5)) (m ((c : Thread nD τ).loc main_arg6))) :=
  (θ_run defs _ _).mono (fun r h c => ((h c).2 main_v3 (Pipeline.mem_restRefs_of main_v3 (by decide) (by decide))).trans ((tail_eq m c).trans (value_eq m c))) (run_main m ρ)

end Cert.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Frame
public import proofs.«01_k».proof.Proof.Body.Final
public import Idealize.ShloMosaic.Adequacy
public import Idealize.ShloMosaic.Init

@[expose] public section

noncomputable section

namespace Cert.Proof

open Idealize.ShloMosaic Idealize.SL.Sem Cert.Kernel

/-- The kernel over bits ends with its arguments unchanged and every counter at zero: proved in Proof/Bits. -/
theorem frame_kernel : Cert.quiescent_Kernel := fun m ρ _ => Cert.BitsBody.frame m ρ

/-- The reference has host operations only and declares no semaphore: its frame is its generated run, read at the arguments. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal kernel ends with its arguments unchanged and every counter at zero: the run proved in Proof/Body. -/
theorem frame_ideal : Cert.quiescent_KernelIdeal := fun m ρ _ =>
  θ_run_and (Cert.KernelIdeal.Gen.frame_of m ρ (Cert.Body.dats m) (Cert.Body.A_eq m) (Cert.Body.run_main m ρ))
    ((θ_run Cert.KernelIdeal.defs _ _).mono (fun _ h => h.2) (Cert.Body.run_main_quiescent m ρ))

/-- The ideal kernel and the ideal reference compute the same result from the same arguments. -/
theorem same_result : Cert.algebraic_KernelIdeal_ReferenceIdeal := fun m g m' g' _ hargs =>
  ⟨fun c => Cert.RefBody.out (Cert.Body.totalRef m c) (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    (θ_run Cert.KernelIdeal.defs _ _).mono (fun r h c => ⟨h.1 c, h.2 c⟩)
      (θ_run_and (Cert.Body.run_value m g) (Cert.KernelIdeal.Gen.frame_of m g (Cert.Body.dats m) (Cert.Body.A_eq m) (Cert.Body.run_main m g))),
    (θ_run Cert.ReferenceIdeal.defs _ _).mono (fun r h c => ⟨(h c).1.trans (by
        obtain ⟨h0, h1, h2, h3, h4, h5, h6⟩ := hargs c
        rw [Cert.RefBody.res_eq, h0, h1, h2, h3, h4, h5, h6]
        rfl), (h c).2⟩)
      (Cert.ReferenceIdeal.Value.run (F := Ideal) m' g')⟩

/-- Everything claimed. -/
theorem claim : Cert.Claim := ⟨Cert.Kernel.Gen.facts, Cert.KernelIdeal.Gen.facts, Cert.ReferenceIdeal.Gen.facts,
  frame_kernel, frame_ideal, frame_reference, trivial, same_result⟩

end Cert.Proof

end
